-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S64x1024 : Shape := ⟨2, ![64, 1024]⟩
abbrev S16x48x1024 : Shape := ⟨3, ![16, 48, 1024]⟩
abbrev S8 : Shape := ⟨1, ![8]⟩
abbrev S7 : Shape := ⟨1, ![7]⟩
abbrev S_ : Shape := ⟨0, ![]⟩
abbrev S1024x64 : Shape := ⟨2, ![1024, 64]⟩
abbrev S1024x1024 : Shape := ⟨2, ![1024, 1024]⟩
abbrev S1024 : Shape := ⟨1, ![1024]⟩
abbrev S1024x48 : Shape := ⟨2, ![1024, 48]⟩
abbrev S48x512 : Shape := ⟨2, ![48, 512]⟩
abbrev S12x512 : Shape := ⟨2, ![12, 512]⟩
abbrev S1x512x1024 : Shape := ⟨3, ![1, 512, 1024]⟩
abbrev S512x1024 : Shape := ⟨2, ![512, 1024]⟩
abbrev S12x1024 : Shape := ⟨2, ![12, 1024]⟩
abbrev S1x12x1024 : Shape := ⟨3, ![1, 12, 1024]⟩
abbrev S1 : Shape := ⟨1, ![1]⟩
abbrev S1x48x1024 : Shape := ⟨3, ![1, 48, 1024]⟩
abbrev S48x1024 : Shape := ⟨2, ![48, 1024]⟩
abbrev S768x1024 : Shape := ⟨2, ![768, 1024]⟩
abbrev S64x1 : Shape := ⟨2, ![64, 1]⟩
abbrev S64x768 : Shape := ⟨2, ![64, 768]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S4x512x1024, .bf16⟩
  | .hbm, ⟨4, _⟩ => ⟨S64x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S64x1024, .f32⟩
  | .local _ .vmem, ⟨4, _⟩ => ⟨S16x48x1024, .bf16⟩
  | .local _ .vmem, ⟨5, _⟩ => ⟨S1024x1, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v99 : Index := Scalar.indexCast v2
  let c0_33 : Index := 0#32
  let c0_34 : Index := 0#32
  ![v99.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v109 : Index := Scalar.indexCast v2
  let c12 : Index := 12#32
  let c0_38 : Index := 0#32
  ![v109.toNat, 12, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v119 : Index := Scalar.indexCast v2
  let c24 : Index := 24#32
  let c0_42 : Index := 0#32
  ![v119.toNat, 24, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v129 : Index := Scalar.indexCast v2
  let c36 : Index := 36#32
  let c0_46 : Index := 0#32
  ![v129.toNat, 36, 0]
def k0_off5 (d0 : Dev nD) (c0_i32_47 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v133 : BitVec 32 := Scalar.subi v2 c0_i32_47
  let c16_i32_48 : BitVec 32 := 16#32
  let v134 : BitVec 32 := Scalar.addi v133 c16_i32_48
  let c16_i32_49 : BitVec 32 := 16#32
  let v135 : BitVec 32 := Scalar.remsi v134 c16_i32_49
  let c0_i32_54 : BitVec 32 := 0#32
  let c0_i32_55 : BitVec 32 := 0#32
  ![v135.toNat, 0, 0]
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_52 : BitVec 32 := 1#32
  let v136 : BitVec 32 := Scalar.muli v7 c1_i32_52
  let v137 : BitVec 32 := Scalar.addi c0_i32_53 v136
  v137.toNat
def k0_off6 (d0 : Dev nD) (c0_i32_58 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v146 : BitVec 32 := Scalar.addi v2 c0_i32_58
  let c16_i32_59 : BitVec 32 := 16#32
  let v147 : BitVec 32 := Scalar.remsi v146 c16_i32_59
  let c0_i32_64 : BitVec 32 := 0#32
  let c0_i32_65 : BitVec 32 := 0#32
  ![v147.toNat, 0, 0]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_62 : BitVec 32 := 1#32
  let v148 : BitVec 32 := Scalar.muli v5 c1_i32_62
  let v149 : BitVec 32 := Scalar.addi c0_i32_63 v148
  v149.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_103 : BitVec 32 := 1#32
  let v189 : BitVec 32 := Scalar.muli v7 c1_i32_103
  let v190 : BitVec 32 := Scalar.addi c0_i32_104 v189
  v190.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_113 : BitVec 32 := 1#32
  let v201 : BitVec 32 := Scalar.muli v5 c1_i32_113
  let v202 : BitVec 32 := Scalar.addi c0_i32_114 v201
  v202.toNat
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_154 : BitVec 32 := 1#32
  let v242 : BitVec 32 := Scalar.muli v7 c1_i32_154
  let v243 : BitVec 32 := Scalar.addi c0_i32_155 v242
  v243.toNat
def k0_dev8 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_164 : BitVec 32 := 1#32
  let v254 : BitVec 32 := Scalar.muli v5 c1_i32_164
  let v255 : BitVec 32 := Scalar.addi c0_i32_165 v254
  v255.toNat
def k0_dev9 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_204 : BitVec 32 := 1#32
  let v295 : BitVec 32 := Scalar.muli v7 c1_i32_204
  let v296 : BitVec 32 := Scalar.addi c0_i32_205 v295
  v296.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_214 : BitVec 32 := 1#32
  let v307 : BitVec 32 := Scalar.muli v5 c1_i32_214
  let v308 : BitVec 32 := Scalar.addi c0_i32_215 v307
  v308.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_255 : BitVec 32 := 1#32
  let v348 : BitVec 32 := Scalar.muli v7 c1_i32_255
  let v349 : BitVec 32 := Scalar.addi c0_i32_256 v348
  v349.toNat
def k0_dev12 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_265 : BitVec 32 := 1#32
  let v360 : BitVec 32 := Scalar.muli v5 c1_i32_265
  let v361 : BitVec 32 := Scalar.addi c0_i32_266 v360
  v361.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_305 : BitVec 32 := 1#32
  let v401 : BitVec 32 := Scalar.muli v7 c1_i32_305
  let v402 : BitVec 32 := Scalar.addi c0_i32_306 v401
  v402.toNat
def k0_dev14 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_315 : BitVec 32 := 1#32
  let v413 : BitVec 32 := Scalar.muli v5 c1_i32_315
  let v414 : BitVec 32 := Scalar.addi c0_i32_316 v413
  v414.toNat
def k0_dev15 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_355 : BitVec 32 := 1#32
  let v454 : BitVec 32 := Scalar.muli v7 c1_i32_355
  let v455 : BitVec 32 := Scalar.addi c0_i32_356 v454
  v455.toNat
def k0_dev16 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_365 : BitVec 32 := 1#32
  let v466 : BitVec 32 := Scalar.muli v5 c1_i32_365
  let v467 : BitVec 32 := Scalar.addi c0_i32_366 v466
  v467.toNat
def k0_dev17 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_405 : BitVec 32 := 1#32
  let v507 : BitVec 32 := Scalar.muli v7 c1_i32_405
  let v508 : BitVec 32 := Scalar.addi c0_i32_406 v507
  v508.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v533 : BitVec 32 := Scalar.muli v2 c64_i32
  let v534 : Index := Scalar.indexCast v533
  let c0_429 : Index := 0#32
  ![v534.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S1024x512x1024 : Shape := ⟨3, ![1024, 512, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S64x512x1024, .bf16⟩
  | .hbm, ⟨4, _⟩ => ⟨S1024, .i32⟩
  | .hbm, ⟨5, _⟩ => ⟨S1024, .i32⟩
  | .hbm, ⟨6, _⟩ => ⟨S1024x1, .i32⟩
  | .hbm, ⟨7, _⟩ => ⟨S1x1024, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S1x1024, .i32⟩
  | .hbm, ⟨12, _⟩ => ⟨S1024x1, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .i1⟩
  | .hbm, ⟨17, _⟩ => ⟨S1024x1024, .i32⟩
  | .hbm, ⟨18, _⟩ => ⟨S_, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S1024x512, .f32⟩
  | .hbm, ⟨28, _⟩ => ⟨S64x512x1024, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S1024x512x1024, .f32⟩
  | .hbm, ⟨46, _⟩ => ⟨S1024x1024, .f32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S1024, .i1⟩
  | .hbm, ⟨51, _⟩ => ⟨S1024x1, .i1⟩
  | .hbm, ⟨52, _⟩ => ⟨S_, .f32⟩
  | .hbm, ⟨53, _⟩ => ⟨S_, .f32⟩
  | .hbm, ⟨54, _⟩ => ⟨S1024x1024, .i1⟩
  | .hbm, ⟨55, _⟩ => ⟨S1024x1024, .f32⟩
  | .hbm, ⟨56, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Proof.Proto.lean ====
/-
# The ring all-gather's protocol: cells, slots, contents, schedule, levels

Every device computes its own 48 rows of expert output into slot `c` of a gathered buffer of sixteen slots and the
slots then travel around the ring in both directions, eight hops one way and seven the other. Transfers are numbered
`j = 0 … 14` in program order: an even `j = 2h` is hop `h` towards the next device, an odd `j = 2h + 1` hop `h` towards
the previous one. Transfer `j` of device `c` sends slot `src j c` to the same slot of device `dst j c`, which is slot
`src (j + 2) (dst j c)` as that device numbers its sources: what a device receives in one hop it sends on in the next.

The entry handshake runs on the barrier semaphore: device `c`'s signal to the previous device hands that device the
slots of `c` it will write (the even transfers), the signal to the next device those of the odd transfers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)

def ring : Dev nD ≃ Dev nD := ⟨nxt, prv, prv_nxt, nxt_prv⟩

/-- Transfer `j` goes to the next device when even, to the previous one when odd; -/
abbrev isCw (j : Fin 15) : Bool := j.val % 2 == 0
def dst (j : Fin 15) (c : Dev nD) : Dev nD := if isCw j then nxt c else prv c
/-- and comes in from the other side. -/
def fro (j : Fin 15) (c : Dev nD) : Dev nD := if isCw j then prv c else nxt c

theorem dst_fro (j : Fin 15) (c : Dev nD) : dst j (fro j c) = c := by
  unfold dst fro; split <;> simp only [nxt_prv, prv_nxt]
theorem fro_dst (j : Fin 15) (c : Dev nD) : fro j (dst j c) = c := by
  unfold dst fro; split <;> simp only [nxt_prv, prv_nxt]

def around (j : Fin 15) : Dev nD ≃ Dev nD := ⟨dst j, fro j, fro_dst j, dst_fro j⟩

set_option backward.proofsInPublic true in
/-- The slot transfer `k` sends: hop `k / 2`'s, counted back around the ring from `c` one way or the other. -/
def src (k : ℕ) (c : Dev nD) : Dev nD :=
  ⟨(c.val + if k % 2 = 0 then 16 - k / 2 % 16 else k / 2) % 16, Nat.mod_lt _ (by decide)⟩

theorem src_dst (j : Fin 15) (c : Dev nD) : src (j.val + 2) (dst j c) = src j.val c := by revert j c; decide
theorem src_zero (c : Dev nD) : src 0 c = c := by revert c; decide
theorem src_one (c : Dev nD) : src 1 c = c := by revert c; decide

/-- The slots a device receives are fifteen different ones, none its own. -/
theorem src_inj (c : Dev nD) : ∀ j j' : Fin 15, src (j.val + 2) c = src (j'.val + 2) c → j = j' := by revert c; decide
theorem src_ne (c : Dev nD) : ∀ j : Fin 15, src (j.val + 2) c ≠ c := by revert c; decide
theorem src_cover (c : Dev nD) : ∀ s : Dev nD, s = c ∨ ∃ j : Fin 15, src (j.val + 2) c = s := by revert c; decide

/-! ## The memrefs and cells -/

abbrev xM : Memref sig .tc .vmem S1024x512 .bf16 := Memref.whole cc0_stg0_0
abbrev rM : Memref sig .tc .vmem S1024x1 .i32 := Memref.whole cc0_stg1_0
abbrev wM : Memref sig .tc .vmem S4x512x1024 .bf16 := Memref.whole cc0_stg2_0
abbrev oM : Memref sig .tc .vmem S64x1024 .f32 := Memref.whole cc0_stg3_0
abbrev gM : Memref sig .tc .vmem S16x48x1024 .bf16 := Memref.whole cc0_scratch0
abbrev pM : Memref sig .tc .vmem S1024x1 .f32 := Memref.whole cc0_scratch1

theorem slot_inb (s : Dev nD) : ∀ a, (![s.val, 0, 0] : Fin 3 → Nat) a + S1x48x1024.size a ≤ S16x48x1024.size a := by
  revert s; decide

/-- Slot `s` of the gathered buffer, as a rectangle and as the transfers' memref. -/
abbrev slotR (s : Dev nD) : Rect S16x48x1024 := Rect.unit (s := S16x48x1024) ![s.val, 0, 0] S1x48x1024.size (slot_inb s)
abbrev slotM (s : Dev nD) : Memref sig .tc .vmem S48x1024 .bf16 :=
  (gM.slice (slotR s) (fun _ => rfl)).squeeze S48x1024 squeezes_S1x48x1024_S48x1024

theorem slotM_eq (s : Dev nD) {off : Fin 3 → Nat} (h : off = ![s.val, 0, 0])
    (inb : ∀ a, off a + S1x48x1024.size a ≤ S16x48x1024.size a) :
    (gM.slice (Rect.unit (s := S16x48x1024) off S1x48x1024.size inb) (fun _ => rfl)).squeeze S48x1024 squeezes_S1x48x1024_S48x1024
      = slotM s := by subst h; rfl

theorem slot_set (s : Dev nD) : (slotM s).view.set = (slotR s).set := by
  rw [Memref.set_view_squeeze]; exact View.set_slice_whole _ _

theorem mem_slot (s : Dev nD) (i : S16x48x1024.Idx) : i ∈ (slotR s).set ↔ (i 0).val = s.val := by
  rw [Rect.mem_set_unit]
  constructor
  · intro h; have := h 0; simp at this; omega
  · intro h a
    have h1 := (i 1).isLt; have h2 := (i 2).isLt
    fin_cases a <;> simp at * <;> omega

theorem slot_disjoint {s s' : Dev nD} (h : s ≠ s') : Disjoint (slotR s).set (slotR s').set := by
  rw [Finset.disjoint_left]
  intro i hi hi'
  rw [mem_slot] at hi hi'
  exact h (Fin.ext (hi.symm.trans hi'))

/-- The barrier semaphore; the send and receive semaphore of transfer `j`. -/
abbrev barS : Sem sig := (SemArray.scalar (sig.barrier 0 rfl) : Sems sig S_).sem
set_option backward.proofsInPublic true in
def sendS (j : Fin 15) : DmaSem sig := (⟨(if j.val % 2 = 0 then 4 + j.val / 2 else 20 + j.val / 2) % 34, Nat.mod_lt _ (by decide)⟩ : Fin 34)
set_option backward.proofsInPublic true in
def recvS (j : Fin 15) : DmaSem sig := (⟨(if j.val % 2 = 0 then 12 + j.val / 2 else 27 + j.val / 2) % 34, Nat.mod_lt _ (by decide)⟩ : Fin 34)

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

/-- Which kind of semaphore of the pool a number is, and which transfer's. -/
def isRecv (q : DmaSem sig) : Bool := (12 ≤ q.val && q.val < 20) || 27 ≤ q.val
set_option backward.proofsInPublic true in
def sendIx (q : DmaSem sig) : Fin 15 := ⟨(if q.val < 20 then 2 * (q.val - 4) else 2 * (q.val - 20) + 1) % 15, Nat.mod_lt _ (by decide)⟩
set_option backward.proofsInPublic true in
def recvIx (q : DmaSem sig) : Fin 15 := ⟨(if q.val < 20 then 2 * (q.val - 12) else 2 * (q.val - 27) + 1) % 15, Nat.mod_lt _ (by decide)⟩

theorem isRecv_recv (j : Fin 15) : isRecv (recvS j) = true := by revert j; decide
theorem isRecv_send (j : Fin 15) : isRecv (sendS j) = false := by revert j; decide
theorem recvIx_recv (j : Fin 15) : recvIx (recvS j) = j := by revert j; decide
theorem sendIx_send (j : Fin 15) : sendIx (sendS j) = j := by revert j; decide
theorem four_le_send (j : Fin 15) : 4 ≤ (sendS j).val := by revert j; decide
theorem four_le_recv (j : Fin 15) : 4 ≤ (recvS j).val := by revert j; decide

theorem recvS_inj {j j' : Fin 15} (h : recvS j = recvS j') : j = j' := by
  rw [← recvIx_recv j, h, recvIx_recv]
theorem sendS_inj {j j' : Fin 15} (h : sendS j = sendS j') : j = j' := by
  rw [← sendIx_send j, h, sendIx_send]
theorem send_ne_recv (j j' : Fin 15) : sendS j ≠ recvS j' := fun h => by
  have := isRecv_send j; rw [h, isRecv_recv] at this; cases this

/-- A slot's credit. -/
abbrev N : ℕ := (slotM (0 : Fin 16)).view.dmaCredit
theorem N_pos : 0 < N := View.dmaCredit_pos _ (by decide)
theorem N_eq (s : Dev nD) : (slotM s).view.dmaCredit = N := rfl

/-! ## Contents -/

/-- The staged blocks of `x`, of the routes and of the device's four experts' weights. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- The device's number as the kernel computes it. -/
abbrev devWord (c : Dev nD) : BitVec 32 := Scalar.remsi (Scalar.divsi (Dev.word c) 1#32) 16#32

/-- The weights of local expert `0 … 3`, as the kernel loads them. -/
abbrev wR0 : Rect S4x512x1024 := Rect.unit (s := S4x512x1024) ![0, 0, 0] S1x512x1024.size inb_S4x512x1024_S1x512x1024_0_0_0
abbrev wR1 : Rect S4x512x1024 := Rect.unit (s := S4x512x1024) ![1, 0, 0] S1x512x1024.size inb_S4x512x1024_S1x512x1024_1_0_0
abbrev wR2 : Rect S4x512x1024 := Rect.unit (s := S4x512x1024) ![2, 0, 0] S1x512x1024.size inb_S4x512x1024_S1x512x1024_2_0_0
abbrev wR3 : Rect S4x512x1024 := Rect.unit (s := S4x512x1024) ![3, 0, 0] S1x512x1024.size inb_S4x512x1024_S1x512x1024_3_0_0

/-- The four twelve-row pieces of device `c`'s slot. -/
def piece0 (c : Dev nD) : FVec F S1x12x1024 .bf16 :=
  k0_pay8 (k0_pay2 (rstg m ρ c)) (k0_pay3 (rstg m ρ c)) k0_pay5 (k0_pay6 (devWord c)) (xstg m ρ c)
    (wM.view.readAt (Elt F) wR0.toLoadRect (wstg m ρ c))
def piece1 (c : Dev nD) : FVec F S1x12x1024 .bf16 :=
  k0_pay9 (k0_pay2 (rstg m ρ c)) (k0_pay3 (rstg m ρ c)) k0_pay5 (k0_pay6 (devWord c)) (xstg m ρ c)
    (wM.view.readAt (Elt F) wR1.toLoadRect (wstg m ρ c))
def piece2 (c : Dev nD) : FVec F S1x12x1024 .bf16 :=
  k0_pay11 (k0_pay10 (k0_pay2 (rstg m ρ c)) (k0_pay3 (rstg m ρ c)) k0_pay5 (k0_pay6 (devWord c)) (xstg m ρ c)
    (wM.view.readAt (Elt F) wR2.toLoadRect (wstg m ρ c)))
def piece3 (c : Dev nD) : FVec F S1x12x1024 .bf16 :=
  k0_pay12 (k0_pay7 (k0_pay2 (rstg m ρ c)) (k0_pay3 (rstg m ρ c)) k0_pay5 (k0_pay6 (devWord c)) (xstg m ρ c))
    (wM.view.readAt (Elt F) wR3.toLoadRect (wstg m ρ c))

/-- The gathered buffer: slot `s` holds device `s`'s four pieces, one under the other. -/
def gath : (cc0_scratch0 : Ref sig .tc).ty.Contents (Elt F) := fun (i : S16x48x1024.Idx) =>
  let y : S1x12x1024.Idx := ix3 (0 : Fin 1) (⟨(i 1).val % 12, Nat.mod_lt _ (by decide)⟩ : Fin 12) (⟨(i 2).val, (i 2).isLt⟩ : Fin 1024)
  if (i 1).val < 12 then piece0 m ρ (i 0) y else if (i 1).val < 24 then piece1 m ρ (i 0) y
    else if (i 1).val < 36 then piece2 m ρ (i 0) y else piece3 m ρ (i 0) y

omit [FloatOps F] in
/-- A store of twelve rows at row `b` of slot `s`, at an index. -/
theorem write_rows (s : Dev nD) (b : ℕ) {off : Fin 3 → Nat} (hoff : off = ![s.val, b, 0])
    (inb : ∀ a, off a + S1x12x1024.size a ≤ S16x48x1024.size a)
    (f : (cc0_scratch0 : Ref sig .tc).ty.Contents (Elt F)) (w : S1x12x1024.Idx → Elt F .bf16) (i : S16x48x1024.Idx) (hi : (i 0).val = s.val) :
    (gM.access (Rect.unit (s := S16x48x1024) off S1x12x1024.size inb) : View sig .tc _ _ _).write (Elt F) f w Finset.univ i
      = if h : b ≤ (i 1).val ∧ (i 1).val < b + 12 then
          w (ix3 (0 : Fin 1) (⟨(i 1).val - b, by omega⟩ : Fin 12) (⟨(i 2).val, (i 2).isLt⟩ : Fin 1024)) else f i := by
  subst hoff
  split
  · next h =>
    have hy : i = (gM.access (Rect.unit (s := S16x48x1024) ![s.val, b, 0] S1x12x1024.size inb) : View sig .tc _ _ _).emb
        (ix3 (0 : Fin 1) (⟨(i 1).val - b, by omega⟩ : Fin 12) (⟨(i 2).val, (i 2).isLt⟩ : Fin 1024)) := by
      refine funext fun a => Fin.ext ?_
      fin_cases a
      · show (i 0).val = s.val + 1 * 0; omega
      · show (i 1).val = b + 1 * ((i 1).val - b); omega
      · show (i 2).val = 0 + 1 * (i 2).val; omega
    conv_lhs => rw [hy]
    exact View.write_emb_of_mem _ _ (Finset.mem_univ _)
  · next h =>
    refine View.write_of_not_mem _ _ _ fun hm => h ?_
    rw [View.setOn_univ] at hm
    have hm' : i ∈ (Rect.unit (s := S16x48x1024) ![s.val, b, 0] S1x12x1024.size inb).set := by
      rw [← View.set_slice_whole cc0_scratch0]; exact hm
    rw [Rect.mem_set_unit] at hm'
    exact hm' 1

/-- The four stores, whatever the slot held: the slot then holds `gath`. -/
theorem own_stores (c : Dev nD) (f : (cc0_scratch0 : Ref sig .tc).ty.Contents (Elt F)) (i : S16x48x1024.Idx) (hi : (i 0).val = c.val) :
    (gM.access (Rect.unit (s := S16x48x1024) (k0_off4 c) S1x12x1024.size (k0_off4_inb c)) : View sig .tc _ _ _).write (Elt F)
      ((gM.access (Rect.unit (s := S16x48x1024) (k0_off3 c) S1x12x1024.size (k0_off3_inb c)) : View sig .tc _ _ _).write (Elt F)
        ((gM.access (Rect.unit (s := S16x48x1024) (k0_off2 c) S1x12x1024.size (k0_off2_inb c)) : View sig .tc _ _ _).write (Elt F)
          ((gM.access (Rect.unit (s := S16x48x1024) (k0_off1 c) S1x12x1024.size (k0_off1_inb c)) : View sig .tc _ _ _).write (Elt F)
            f (piece0 m ρ c) Finset.univ) (piece1 m ρ c) Finset.univ) (piece2 m ρ c) Finset.univ) (piece3 m ρ c) Finset.univ i
      = gath m ρ i := by
  have h1 : (i 1).val < 48 := (i 1).isLt
  have hc : i 0 = c := Fin.ext hi
  rw [write_rows c 36 (k0_off4_eq c) _ _ _ _ hi, write_rows c 24 (k0_off3_eq c) _ _ _ _ hi, write_rows c 12 (k0_off2_eq c) _ _ _ _ hi,
    write_rows c 0 (k0_off1_eq c) _ _ _ _ hi]
  unfold gath
  rw [hc]
  by_cases h12 : (i 1).val < 12
  · rw [dif_neg (by omega), dif_neg (by omega), dif_neg (by omega), dif_pos (by omega), if_pos h12]
    simp only [Nat.sub_zero, Nat.mod_eq_of_lt h12]
  · by_cases h24 : (i 1).val < 24
    · have e : (i 1).val - 12 = (i 1).val % 12 := by omega
      rw [dif_neg (by omega), dif_neg (by omega), dif_pos (by omega), if_neg h12, if_pos h24]
      simp only [e]
    · by_cases h36 : (i 1).val < 36
      · have e : (i 1).val - 24 = (i 1).val % 12 := by omega
        rw [dif_neg (by omega), dif_pos (by omega), if_neg h12, if_neg h24, if_pos h36]
        simp only [e]
      · have e : (i 1).val - 36 = (i 1).val % 12 := by omega
        rw [dif_pos (by omega), if_neg h12, if_neg h24, if_neg h36]
        simp only [e]

/-! ## A slot's ownership -/

/-- Share `q` of slot `s` of device `c`'s gathered buffer, at contents `f`. -/
def slotPts (c s : Dev nD) (q : PosShare TreeShare) (f : (cc0_scratch0 : Ref sig .tc).ty.Contents (Elt F)) : sProp 𝕄 :=
  (slotM s).view.loc (c : Thread nD τ) ↦[(slotM s).view.set]{q} f

omit [FloatOps F] in
instance slotPts_storable (c s : Dev nD) (q) (f) : BI.Storable (upEmb : UEmb _ 𝕄) (slotPts (F := F) c s q f) := by
  unfold slotPts; infer_instance

omit [FloatOps F] in
theorem slotPts_congr (c s : Dev nD) (q) {f g : (cc0_scratch0 : Ref sig .tc).ty.Contents (Elt F)}
    (h : ∀ i : S16x48x1024.Idx, (i 0).val = s.val → f i = g i) : slotPts c s q f = slotPts c s q g := by
  unfold slotPts
  refine pointsTo_congr fun i hi => h i ?_
  rw [slot_set] at hi; exact (mem_slot s i).mp hi

omit [FloatOps F] in
/-- A slot copied onto the same slot. -/
theorem landed_eq (c s : Dev nD) (q) (fd f : (cc0_scratch0 : Ref sig .tc).ty.Contents (Elt F)) :
    slotPts c s q ((slotM s).view.write (Elt F) fd ((slotM s).view.read (Elt F) f) Finset.univ) = slotPts c s q f := by
  unfold slotPts
  refine pointsTo_congr fun i hi => ?_
  obtain ⟨y, -, rfl⟩ := Finset.mem_map.mp hi
  rw [View.write_emb_of_mem _ _ (Finset.mem_univ _)]
  rfl

omit [FloatOps F] in
/-- A slot held whole is its two half shares. -/
theorem slotPts_halves (c s : Dev nD) (f : (cc0_scratch0 : Ref sig .tc).ty.Contents (Elt F)) :
    slotPts c s fullShare f ⊣⊢ iprop(slotPts c s fullShare.left f ∗ slotPts c s fullShare.right f) := by
  unfold slotPts; exact pointsTo_share (PosShare.mem_left_op_right fullShare)

omit [FloatOps F] in
/-- The buffer is device `c`'s own slot and the fifteen it receives. -/
theorem whole_slots (c : Dev nD) (f : (cc0_scratch0 : Ref sig .tc).ty.Contents (Elt F)) :
    (((c : Thread nD τ).loc cc0_scratch0) ↦{fullShare} f : sProp 𝕄)
      = iprop(slotPts c c fullShare f ∗ bigSep Finset.univ fun j : Fin 15 => slotPts c (src (j.val + 2) c) fullShare f) := by
  have hcov : (Finset.univ : Finset S16x48x1024.Idx) = (Finset.univ : Finset (Fin 16)).biUnion fun s => (slotR s).set := by
    ext i; simp only [Finset.mem_univ, Finset.mem_biUnion, true_and, true_iff]
    exact ⟨i 0, (mem_slot _ _).mpr rfl⟩
  have h1 : (((c : Thread nD τ).loc cc0_scratch0) ↦{fullShare} f : sProp 𝕄) = bigSep (Finset.univ : Finset (Fin 16)) fun s => slotPts c s fullShare f := by
    show ((c : Thread nD τ).loc cc0_scratch0 ↦[(Finset.univ : Finset S16x48x1024.Idx)]{fullShare} f : sProp 𝕄) = _
    rw [hcov]
    refine (pointsTo_biUnion _ _ fun s _ s' _ hs => slot_disjoint hs).trans (bigSep_congr fun s _ => ?_)
    unfold slotPts; rw [slot_set]
  have h2 : (Finset.univ : Finset (Fin 16)).erase c = Finset.univ.map ⟨fun j : Fin 15 => src (j.val + 2) c, src_inj c⟩ := by
    ext s; simp only [Finset.mem_erase, Finset.mem_univ, and_true, Finset.mem_map, true_and, Function.Embedding.coeFn_mk]
    constructor
    · intro h; exact (src_cover c s).resolve_left h
    · rintro ⟨j, rfl⟩; exact src_ne c j
  rw [h1, bigSep_univ_at _ c, h2, bigSep_map]; rfl

end Cert.Moe

end
-- ==== Proof.Sched.lean ====
/-
# The schedule of the ring's cells, what each device owes, the levels, the state between hops
-/
module

public import proofs.«01_k».proof.Proof.Proto

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- The share of its source slot a transfer reads: the two first transfers read the own slot at once, a half each. -/
def shr (k : ℕ) : PosShare TreeShare := if k = 0 then fullShare.left else if k = 1 then fullShare.right else fullShare

/-- What transfer `k`'s source is on device `c`: a slot, filled. -/
def part (c : Dev nD) (k : ℕ) : sProp 𝕄 := slotPts c (src k c) (shr k) (gath m ρ)

/-- The slot transfer `j` of device `c` writes, on the device it goes to. -/
def land (c : Dev nD) (j : Fin 15) : sProp 𝕄 := iprop(∃ f, slotPts (dst j c) (src j.val c) fullShare f)

/-- What the two signals of device `x`'s barrier cell hand it: the slots its even transfers write (from the next device),
    and its odd ones (from the previous device). -/
def barPay (x : Dev nD) (d : Bool) : sProp 𝕄 := bigSep (Finset.univ.filter fun j : Fin 15 => isCw j = d) fun j => land x j

instance part_storable (c : Dev nD) (k : ℕ) : BI.Storable (upEmb : UEmb _ 𝕄) (part (F := F) m ρ c k) := by unfold part; infer_instance
omit [FloatOps F] in
instance land_storable (c : Dev nD) (j : Fin 15) : BI.Storable (upEmb : UEmb _ 𝕄) (land (F := F) c j) := by unfold land; infer_instance
omit [FloatOps F] in
instance barPay_storable (x : Dev nD) (d : Bool) : BI.Storable (upEmb : UEmb _ 𝕄) (barPay (F := F) x d) := by unfold barPay; infer_instance

/-! ## The schedule -/

/-- One round: a barrier cell has the duties `true` (from the next device) and `false` (from the previous one) of one
    unit each; a transfer's send and receive cell the duty `false` of a slot's credit. -/
def ringRd : Rounds.Schedule (GSem nD τ sig) Bool 𝕄 where
  duties g r := if r = 0 ∧ g.1.2 = .tc then (match g.2 with
    | .reg _ => Finset.univ
    | .dma q => if 4 ≤ q.val then {false} else ∅) else ∅
  unitless _ := False
  amount g _ _ := match g.2 with
    | .reg _ => 1
    | .dma _ => N
  payload g _ d := match g.2 with
    | .reg _ => barPay g.1.1 d
    | .dma q => if isRecv q then part m ρ g.1.1 ((recvIx q).val + 2) else part m ρ g.1.1 (sendIx q).val
  amount_pos g _ _ _ := by
    split
    · exact Nat.one_pos
    · exact N_pos

instance ringRd_payload_storable (g : GSem nD τ sig) (r : ℕ) (d : Bool) :
    BI.Storable (upEmb : UEmb _ 𝕄) ((ringRd (F := F) m ρ).payload g r d) := by
  obtain ⟨t, q | q⟩ := g
  · show BI.Storable upEmb (barPay t.1 d); infer_instance
  · show BI.Storable upEmb (if isRecv q then part m ρ t.1 ((recvIx q).val + 2) else part m ρ t.1 (sendIx q).val)
    split <;> infer_instance

section Sched
variable (c : Dev nD) (j : Fin 15)

theorem duties_bar : (ringRd (F := F) m ρ).duties (barCell c) 0 = Finset.univ := by dsimp only [ringRd]; exact if_pos ⟨rfl, rfl⟩
theorem duties_send : (ringRd (F := F) m ρ).duties (sendCell c j) 0 = {false} := by
  dsimp only [ringRd]; exact (if_pos ⟨rfl, rfl⟩).trans (if_pos (four_le_send j))
theorem duties_recv : (ringRd (F := F) m ρ).duties (recvCell c j) 0 = {false} := by
  dsimp only [ringRd]; exact (if_pos ⟨rfl, rfl⟩).trans (if_pos (four_le_recv j))
theorem duties_later (g : GSem nD τ sig) : ∀ r, 1 ≤ r → (ringRd (F := F) m ρ).duties g r = ∅ :=
  fun r hr => by dsimp only [ringRd]; exact if_neg fun h => by omega

theorem amount_bar (d : Bool) : (ringRd (F := F) m ρ).amount (barCell c) 0 d = 1 := rfl
theorem amount_send (d : Bool) : (ringRd (F := F) m ρ).amount (sendCell c j) 0 d = N := rfl
theorem amount_recv (d : Bool) : (ringRd (F := F) m ρ).amount (recvCell c j) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (ringRd (F := F) m ρ).expect (sendCell c j) 0 = N := by
  unfold Schedule.expect Schedule.amountOf; rw [duties_send, Finset.sum_singleton, amount_send]
theorem expect_recv : (ringRd (F := F) m ρ).expect (recvCell c j) 0 = N := by
  unfold Schedule.expect Schedule.amountOf; rw [duties_recv, Finset.sum_singleton, amount_recv]

theorem payload_bar (d : Bool) : (ringRd (F := F) m ρ).payload (barCell c) 0 d = barPay c d := rfl
theorem payload_send (d : Bool) : (ringRd (F := F) m ρ).payload (sendCell c j) 0 d = part m ρ c j.val := by
  show (if isRecv (sendS j) then _ else part m ρ c (sendIx (sendS j)).val) = _
  rw [isRecv_send, sendIx_send]; rfl
theorem payload_recv (d : Bool) : (ringRd (F := F) m ρ).payload (recvCell c j) 0 d = part m ρ c (j.val + 2) := by
  show (if isRecv (recvS j) then part m ρ c ((recvIx (recvS j)).val + 2) else _) = _
  rw [isRecv_recv, recvIx_recv]; rfl

/-- The barrier cell's round: every slot the device will write. -/
theorem rest_bar : bigSep ((ringRd (F := F) m ρ).duties (barCell c) 0 \ ∅) (fun d => (ringRd (F := F) m ρ).payload (barCell c) 0 d)
    = bigSep Finset.univ fun j : Fin 15 => land c j := by
  rw [Finset.sdiff_empty, duties_bar, bigSep_univ_eq_bigSepL [true, false] (by decide) (by decide), bigSepL_cons_cons, bigSepL_singleton,
    payload_bar, payload_bar]
  unfold barPay
  rw [BI.bigSep_filter_split Finset.univ (fun j : Fin 15 => isCw j = true),
    Finset.filter_congr (p := fun j : Fin 15 => ¬isCw j = true) (q := fun j : Fin 15 => isCw j = false) fun j _ => by rw [Bool.not_eq_true]]
theorem rest_send : bigSep ((ringRd (F := F) m ρ).duties (sendCell c j) 0 \ ∅) (fun d => (ringRd (F := F) m ρ).payload (sendCell c j) 0 d) = part m ρ c j.val := by
  rw [Finset.sdiff_empty, duties_send, bigSep_singleton, payload_send]
theorem rest_recv : bigSep ((ringRd (F := F) m ρ).duties (recvCell c j) 0 \ ∅) (fun d => (ringRd (F := F) m ρ).payload (recvCell c j) 0 d) = part m ρ c (j.val + 2) := by
  rw [Finset.sdiff_empty, duties_recv, bigSep_singleton, payload_recv]

end Sched

/-! ## What each device owes; the levels -/

/-- The transfers from number `n` on, and those before. -/
abbrev since (n : ℕ) : Finset (Fin 15) := Finset.univ.filter fun j => n ≤ j.val
abbrev before (n : ℕ) : Finset (Fin 15) := Finset.univ.filter fun j => j.val < n

theorem since_step {n : ℕ} {j : Fin 15} (h : j.val = n) : since n = insert j (since (n + 1)) := by
  ext k; simp only [Finset.mem_filter, Finset.mem_univ, true_and, Finset.mem_insert, Fin.ext_iff]; omega
theorem not_mem_since {n : ℕ} {j : Fin 15} (h : j.val = n) : j ∉ since (n + 1) := by
  simp only [Finset.mem_filter, Finset.mem_univ, true_and]; omega
theorem before_step {n : ℕ} {j : Fin 15} (h : j.val = n) : before (n + 1) = insert j (before n) := by
  ext k; simp only [Finset.mem_filter, Finset.mem_univ, true_and, Finset.mem_insert, Fin.ext_iff]; omega
theorem not_mem_before {n : ℕ} {j : Fin 15} (h : j.val = n) : j ∉ before n := by
  simp only [Finset.mem_filter, Finset.mem_univ, true_and]; omega
theorem since_zero : since 0 = Finset.univ := Finset.filter_true_of_mem fun _ _ => Nat.zero_le _
theorem since_end : since 15 = ∅ := Finset.filter_false_of_mem fun j _ => by omega
theorem before_zero : before 0 = ∅ := Finset.filter_false_of_mem fun j _ => by omega
theorem before_end : before 15 = Finset.univ := Finset.filter_true_of_mem fun j _ => j.isLt

/-- What device `c` still owes from transfer `n` on: each transfer's credit at the receive cell it arrives at. -/
def Orem (n : ℕ) (c : Dev nD) : CellTallies nD τ sig Unit := ∑ j ∈ since n, tallyAt (recvCell (dst j c) j) () N

theorem Orem_step {n : ℕ} {j : Fin 15} (h : j.val = n) (c : Dev nD) :
    Orem n c = Orem (n + 1) c + tallyAt (recvCell (dst j c) j) () N := by
  unfold Orem; rw [since_step h, Finset.sum_insert (not_mem_since h), add_comm]
theorem Orem_end (c : Dev nD) : Orem 15 c = 0 := by unfold Orem; rw [since_end, Finset.sum_empty]

/-- At launch: the transfers' credits and one unit at both neighbours' barrier cells, summed so that the first signal (to
    the previous device) peels the last summand. -/
def O₁ (c : Dev nD) : CellTallies nD τ sig Unit := Orem 0 c + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier cells at 1, the receive cell of hop `h` at `2 + h`, everything else (staging, send) at 0. -/
def lv (g : GSem nD τ sig) (_ : Unit) : ℕ := match g.2 with
  | .reg _ => 1
  | .dma q => if isRecv q then 2 + (recvIx q).val / 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 15) : lv (recvCell c j) () = 2 + j.val / 2 := by
  show (if isRecv (recvS j) then 2 + (recvIx (recvS j)).val / 2 else 0) = _
  rw [isRecv_recv, recvIx_recv]; rfl
theorem lv_send (c : Dev nD) (j : Fin 15) : lv (sendCell c j) () = 0 := by
  show (if isRecv (sendS j) then _ else 0) = _
  rw [isRecv_send]; rfl

theorem Orem_apply (n : ℕ) (c : Dev nD) (g : GSem nD τ sig) (u : Unit) :
    Orem n c g u = ∑ j ∈ since n, (tallyAt (recvCell (dst j c) j) () N : CellTallies nD τ sig Unit) g u := by
  unfold Orem; rw [Finset.sum_apply, Finsupp.finset_sum_apply]

theorem Orem_pos {n : ℕ} {c : Dev nD} {g : GSem nD τ sig} {u : Unit} (h : 0 < Orem n c g u) :
    ∃ j : Fin 15, n ≤ j.val ∧ g = recvCell (dst j c) j := by
  rw [Orem_apply] at h
  obtain ⟨j, hj, hne⟩ := Finset.exists_ne_zero_of_sum_ne_zero (Nat.pos_iff_ne_zero.mp h)
  rw [tallyAt_apply] at hne
  refine ⟨j, (Finset.mem_filter.mp hj).2, ?_⟩
  by_contra hn
  exact hne (if_neg fun h' => hn h'.1)

theorem O₀_pos {c : Dev nD} {g : GSem nD τ sig} {u : Unit} (h : 0 < O₀ c g u) :
    (∃ j : Fin 15, g = recvCell (dst j c) j) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  simp only [Nat.add_zero] at h
  exact hn.1 ((Orem_pos h).imp fun j hj => hj.2)

theorem mayWait_low (c : Dev nD) (q : DmaSem sig) (hq : isRecv q = false) (O : CellTallies nD τ sig Unit)
    (hO : O = O₀ c ∨ ∃ n, O = Orem n c) :
    (levAts L lv : sProp 𝕄) ⊢ MayWait (c : Thread nD τ) (.dma q) () O := by
  have hl : ∀ (g : GSem nD τ sig) (u : Unit), 0 < O g u → u ∈ L g ∧ 0 < lv g u := fun g u hg => by
    rcases hO with rfl | ⟨n, rfl⟩
    · rcases O₀_pos hg with ⟨j, rfl⟩ | rfl | rfl
      · exact ⟨by rw [L_tc]; exact Finset.mem_singleton_self _, by rw [lv_recv]; omega⟩
      · exact ⟨by rw [L_tc]; exact Finset.mem_singleton_self _, Nat.one_pos⟩
      · exact ⟨by rw [L_tc]; exact Finset.mem_singleton_self _, Nat.one_pos⟩
    · obtain ⟨j, -, rfl⟩ := Orem_pos hg
      exact ⟨by rw [L_tc]; exact Finset.mem_singleton_self _, by rw [lv_recv]; omega⟩
  exact MayOwe.of_cut (L := L) (lev := lv) 0 (fun p hp => by rw [Finset.mem_singleton.mp hp, L_tc]; exact Finset.mem_singleton_self _)
    (fun g u hg => (hl g u hg).1)
    (fun p hp => by rw [Finset.mem_singleton.mp hp]; show (if isRecv q then _ else 0) ≤ 0; rw [hq]; exact Nat.le_refl 0)
    (fun g u hg => (hl g u hg).2)

/-- At its barrier wait a device owes receive credits only. -/
theorem mayWait_bar (c : Dev nD) :
    (levAts L lv : sProp 𝕄) ⊢ MayWait (c : Thread nD τ) (.reg barS) () (Orem 0 c) :=
  MayOwe.of_cut (L := L) (lev := lv) 1 (fun p hp => by rw [Finset.mem_singleton.mp hp, L_tc]; exact Finset.mem_singleton_self _)
    (fun g u hg => by obtain ⟨j, -, rfl⟩ := Orem_pos hg; rw [L_tc]; exact Finset.mem_singleton_self _)
    (fun p hp => by rw [Finset.mem_singleton.mp hp]; exact Nat.le_refl 1)
    (fun g u hg => by obtain ⟨j, -, rfl⟩ := Orem_pos hg; rw [lv_recv]; omega)

/-- At the receive wait of a hop it owes the credits of later hops only. -/
theorem mayWait_recv (c : Dev nD) (j : Fin 15) (n : ℕ) (hn : ∀ k : Fin 15, n ≤ k.val → j.val / 2 < k.val / 2) :
    (levAts L lv : sProp 𝕄) ⊢ MayWait (c : Thread nD τ) (.dma (recvS j)) () (Orem n c) :=
  MayOwe.of_cut (L := L) (lev := lv) (2 + j.val / 2) (fun p hp => by rw [Finset.mem_singleton.mp hp, L_tc]; exact Finset.mem_singleton_self _)
    (fun g u hg => by obtain ⟨k, -, rfl⟩ := Orem_pos hg; rw [L_tc]; exact Finset.mem_singleton_self _)
    (fun p hp => by rw [Finset.mem_singleton.mp hp]; exact (lv_recv c j).le)
    (fun g u hg => by obtain ⟨k, hk, rfl⟩ := Orem_pos hg; rw [lv_recv]; have := hn k hk; omega)

/-! ## The cells as the proof indexes them -/

abbrev KIx : Type := Unit ⊕ (Bool × Fin 15)

/-- The kernel's own semaphores: the send (`false`) and receive (`true`) semaphores of the fifteen transfers; -/
abbrev osem (k : Bool × Fin 15) : SemLoc sig := if k.1 then .dma (recvS k.2) else .dma (sendS k.2)
/-- and with the barrier semaphore all of the ring's. -/
abbrev csem : KIx → SemLoc sig := Sum.elim (fun _ => .reg barS) osem
abbrev kcell (ck : Dev nD × KIx) : GSem nD τ sig := ((ck.1 : Thread nD τ), csem ck.2)

/-- Every cell's invariant, under the names `K` they were allocated at, and that its round 0 was reached. -/
def records (K : Dev nD × KIx → ℕ) : sProp 𝕄 :=
  iprop((bigSep Finset.univ fun ck : Dev nD × KIx => cellInv ER (ringRd m ρ) (K ck) (kcell ck))
    ∗ bigSep Finset.univ fun ck : Dev nD × KIx => reached ER (kcell ck) 0)

instance records_persistent (K : Dev nD × KIx → ℕ) : BI.Persistent (records m ρ K) := by unfold records; infer_instance

theorem inv_at (K : Dev nD × KIx → ℕ) (ck : Dev nD × KIx) : records m ρ K ⊢ cellInv ER (ringRd m ρ) (K ck) (kcell ck) := by
  unfold records
  exact (BI.sep_and.trans and_elimL).trans (bigSep_elim (Finset.mem_univ ck))
theorem reached_at (K : Dev nD × KIx → ℕ) (ck : Dev nD × KIx) : records m ρ K ⊢ reached ER (kcell ck) 0 := by
  unfold records
  exact (BI.sep_and.trans and_elimR).trans (bigSep_elim (Finset.mem_univ ck))

/-! ## The state between hops -/

/-- What device `c` holds for transfer `j` until it makes it: the two duties' tokens it pays with, its own positions at
    the two cells it waits on, its credit at the receive cell. -/
def todo (c : Dev nD) (j : Fin 15) : sProp 𝕄 :=
  iprop(dutyTok ER (sendCell c j) 0 false ∗ dutyTok ER (recvCell (dst j c) j) 0 false
    ∗ atPos ER (sendCell c j) 0 ∅ 0 ∗ atPos ER (recvCell c j) 0 ∅ 0 ∗ cred (tallyAt (recvCell c j) () N))
/-- What is left of it afterwards: the two semaphores at zero. -/
def fin (c : Dev nD) (j : Fin 15) : sProp 𝕄 := iprop(semVal (sendCell c j) 0 ∗ semVal (recvCell c j) 0)

/-- Device `c` before transfer `n`, the hops before it complete: the slots it has, its own and those received. -/
def St (c : Dev nD) (n : ℕ) : sProp 𝕄 :=
  iprop((∃ W, owes (c : Thread nD τ) (Orem n c) W)
    ∗ (bigSep (since n) fun j => iprop(todo c j ∗ land c j))
    ∗ (bigSep (Finset.range (n + 2)) fun k => part m ρ c k)
    ∗ bigSep (before n) fun j => fin c j)

end Cert.Moe

end
-- ==== Proof.Hop.lean ====
/-
# One transfer: its enqueue and its two waits; a hop of the ring
-/
module

public import proofs.«01_k».proof.Proof.Sched

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KIx → ℕ)

/-- No variants: the kernel has no unbounded loop. -/
abbrev 𝒱₀ : Variants := Variants.none

/-- The weakest precondition of the rest of a program on core `c`. -/
abbrev WP {α : Type} (c : Dev nD) (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

/-- Any two cores are connected. -/
theorem routes_tc (a b : Dev nD) : τ.routes (a : Thread nD τ) (b : Thread nD τ) = true := by routes

/-- `Rounds.wp_send_pointsTo` at transfer `j`'s two cells. -/
theorem wp_send_ring (c n : Dev nD) (j : Fin 15) (hn : n = dst j c) {ms : Memref sig .tc .vmem S48x1024 .bf16}
    {md : Memref sig (Dev.tc n : Thread nD τ).2.kind .vmem S48x1024 .bf16} (hs : ms = slotM (src j.val c)) (hd : md = slotM (src j.val c))
    {sS rS : DmaSem sig} (hsS : sS = sendS j) (hrS : rS = recvS j)
    {hsc : md.view.ref.isScScratch = false} {hsrc : ms.view.WordExact} {hdst : md.view.WordExact}
    {hsem : DmaTarget.Typed .vmem (.dma rS) (.remote (Dev.tc n : Thread nD τ) md (.dma sS) hsc)}
    {α : Type} {Q : α → sProp 𝕄} {k : PUnit → Prog (TpuEff nD τ sig (Elt F) Λ₀ .tc) α} (W : Waits sig Unit)
    (fd : (cc0_scratch0 : Ref sig .tc).ty.Contents (Elt F)) :
    iprop(cellInv ER (ringRd m ρ) (K (c, .inr (false, j))) (sendCell c j) ∗ cellInv ER (ringRd m ρ) (K (dst j c, .inr (true, j))) (recvCell (dst j c) j)
        ∗ slotPts c (src j.val c) (shr j.val) (gath m ρ) ∗ slotPts (dst j c) (src j.val c) fullShare fd
        ∗ owes (c : Thread nD τ) (Orem j.val c) W
        ∗ dutyTok ER (sendCell c j) 0 false ∗ reached ER (sendCell c j) 0
        ∗ dutyTok ER (recvCell (dst j c) j) 0 false ∗ reached ER (recvCell (dst j c) j) 0)
      ⊢ iprop(((cred (tallyAt (sendCell c j) () N) ∗ owes (c : Thread nD τ) (Orem (j.val + 1) c) W) -∗ WP c (k ⟨⟩) Q)
          -∗ WP c (.op (.enqueueDma ms (.remote (Dev.tc n : Thread nD τ) md (.dma sS) hsc) (.dma rS) hsrc hdst hsem) k) Q) := by
  subst hn hs hsS hrS
  obtain rfl : md = slotM (src j.val c) := hd
  have hd₁ : false ∈ (ringRd (F := F) m ρ).duties (sendCell c j) 0 := by rw [duties_send]; exact Finset.mem_singleton_self _
  have hd₂ : false ∈ (ringRd (F := F) m ρ).duties (recvCell (dst j c) j) 0 := by rw [duties_recv]; exact Finset.mem_singleton_self _
  have hp₁ : slotPts c (src j.val c) (shr j.val) (gath m ρ) ⊢ (ringRd (F := F) m ρ).payload (sendCell c j) 0 false := by
    rw [payload_send]; exact BI.Entails.refl _
  have hp₂ : slotPts (dst j c) (src j.val c) fullShare ((slotM (src j.val c)).view.write (Elt F) fd ((slotM (src j.val c)).view.read (Elt F) (gath m ρ)) Finset.univ)
      ⊢ (ringRd (F := F) m ρ).payload (recvCell (dst j c) j) 0 false := by
    rw [payload_recv, landed_eq]; unfold part; rw [src_dst]; exact BI.Entails.refl _
  unfold slotPts at hp₁ hp₂ ⊢
  exact Rounds.wp_send_pointsTo (Es := Set.univ) (defs := defs₀ (F := F)) (Γ := .empty) 𝒱₀ ER (ringRd m ρ) (c : Thread nD τ) none (κ₁ := K (c, .inr (false, j))) (κ₂ := K (dst j c, .inr (true, j)))
    (r₁ := 0) (r₂ := 0) (d₁ := false) (d₂ := false) (fd := fd) (fs := gath m ρ) (q := shr j.val)
    hd₁ hd₂ () () N rfl (amount_send m ρ c j false) (amount_recv m ρ (dst j c) j false) (Orem (j.val + 1) c) (Orem_step rfl c) (W := W)
    hp₁ hp₂ (routes_tc c (dst j c)) (Q := Q) (k := k) (hsc := hsc) (hsrc := hsrc) (hdst := hdst) (hsem := hsem)

/-- Transfer `j` enqueued: its source goes to the send cell, the slot it writes to the receive cell it arrives at. -/
theorem wp_enq (c n : Dev nD) (j : Fin 15) (hn : n = dst j c) {ms : Memref sig .tc .vmem S48x1024 .bf16}
    {md : Memref sig (Dev.tc n : Thread nD τ).2.kind .vmem S48x1024 .bf16} (hs : ms = slotM (src j.val c)) (hd : md = slotM (src j.val c))
    {sS rS : DmaSem sig} (hsS : sS = sendS j) (hrS : rS = recvS j)
    {hsc : md.view.ref.isScScratch = false} {hsrc : ms.view.WordExact} {hdst : md.view.WordExact}
    {hsem : DmaTarget.Typed .vmem (.dma rS) (.remote (Dev.tc n : Thread nD τ) md (.dma sS) hsc)}
    {α : Type} {Q : α → sProp 𝕄} {k : PUnit → Prog (TpuEff nD τ sig (Elt F) Λ₀ .tc) α} (W : Waits sig Unit) :
    iprop(records m ρ K ∗ part m ρ c j.val ∗ land c j ∗ owes (c : Thread nD τ) (Orem j.val c) W
        ∗ dutyTok ER (sendCell c j) 0 false ∗ dutyTok ER (recvCell (dst j c) j) 0 false)
      ⊢ iprop(((cred (tallyAt (sendCell c j) () N) ∗ owes (c : Thread nD τ) (Orem (j.val + 1) c) W) -∗ WP c (k ⟨⟩) Q)
          -∗ WP c (.op (.enqueueDma ms (.remote (Dev.tc n : Thread nD τ) md (.dma sS) hsc) (.dma rS) hsrc hdst hsem) k) Q) := by
  unfold land part
  iintro ⟨#HR, Hp, ⟨%fd, Hl⟩, HO, Hts, Htr⟩
  iapply (wp_send_ring m ρ K c n j hn hs hd hsS hrS W fd) $$ [Hp Hl HO Hts Htr]
  isplitr; · iapply (inv_at m ρ K (c, .inr (false, j))); iexact HR
  isplitr; · iapply (inv_at m ρ K (dst j c, .inr (true, j))); iexact HR
  isplitl [Hp]; · iexact Hp
  isplitl [Hl]; · iexact Hl
  isplitl [HO]; · iexact HO
  isplitl [Hts]; · iexact Hts
  isplitr; · iapply (reached_at m ρ K (c, .inr (false, j))); iexact HR
  isplitl [Htr]; · iexact Htr
  iapply (reached_at m ρ K (dst j c, .inr (true, j))); iexact HR

/-- The wait on transfer `j`'s send semaphore: its source is back, the cell closed. -/
theorem wp_wsend (c : Dev nD) (j : Fin 15) (n : ℕ) {sm : DmaSem sig} (hsm : sm = sendS j)
    {ms md : Memref sig .tc .vmem S48x1024 .bf16} {s : Dev nD} (hd : md = slotM s)
    {h1 : ms.view.WordExact} {h2 : md.view.WordExact}
    {α : Type} {Q : α → sProp 𝕄} {k : PUnit → Prog (TpuEff nD τ sig (Elt F) Λ₀ .tc) α} (W : Waits sig Unit) :
    iprop(records m ρ K ∗ levAts L lv ∗ cred (tallyAt (sendCell c j) () N) ∗ owes (c : Thread nD τ) (Orem n c) W
        ∗ atPos ER (sendCell c j) 0 ∅ 0)
      ⊢ iprop(((owes (c : Thread nD τ) (Orem n c) (insert (SemLoc.dma (sendS j), ()) W) ∗ part m ρ c j.val ∗ semVal (sendCell c j) 0) -∗ WP c (k ⟨⟩) Q)
          -∗ WP c (.op (.waitDma2 sm ms md h1 h2) k) Q) := by
  subst hsm hd
  iintro ⟨#HR, #Hlev, Hc, HO, Hat⟩ Hk
  iapply (Rounds.wp_wait_rest_token 𝒱₀ ER (ringRd m ρ) (c : Thread nD τ) none (κ := K (c, .inr (false, j)))
      (wpE_waitDma2_eq 𝒱₀ (c : Thread nD τ) none Set.univ) (Set.mem_univ _) () (O := Orem n c) (W := W) (R := 0) (m := 0) (T := ∅)
      (by rw [Nat.zero_add]; exact (expect_send m ρ c j).symm)) $$ [Hc HO Hat]
  · isplitr; · iapply (inv_at m ρ K (c, .inr (false, j))); iexact HR
    isplitl [Hc]; · iexact Hc
    isplitl [HO]; · iexact HO
    isplitr; · iapply (mayWait_low c (sendS j) (isRecv_send j) (Orem n c) (.inr ⟨n, rfl⟩)); iexact Hlev
    iexact Hat
  iintro ⟨HO, Hat, -, Hpay⟩
  ihave Hp := (Entails.of_eq (rest_send m ρ c j)) $$ Hpay
  imod (Rounds.cell_close ER (ringRd m ρ) (Set.mem_univ (K (c, .inr (false, j)))) (fun h => h) (R := 0 + 1) (duties_later m ρ (sendCell c j))) $$ [Hat] with Hz
  · isplitr; · iapply (inv_at m ρ K (c, .inr (false, j))); iexact HR
    iexact Hat
  iapply Hk
  isplitl [HO]; · iexact HO
  isplitl [Hp]; · iexact Hp
  iexact Hz

/-- The wait on its receive semaphore: the slot has arrived, the cell closed. -/
theorem wp_wrecv (c : Dev nD) (j : Fin 15) (n : ℕ) (hlt : ∀ k : Fin 15, n ≤ k.val → j.val / 2 < k.val / 2) {sm : DmaSem sig} (hsm : sm = recvS j)
    {ms md : Memref sig .tc .vmem S48x1024 .bf16} {s : Dev nD} (hd : md = slotM s)
    {h1 : ms.view.WordExact} {h2 : md.view.WordExact}
    {α : Type} {Q : α → sProp 𝕄} {k : PUnit → Prog (TpuEff nD τ sig (Elt F) Λ₀ .tc) α} (W : Waits sig Unit) :
    iprop(records m ρ K ∗ levAts L lv ∗ cred (tallyAt (recvCell c j) () N) ∗ owes (c : Thread nD τ) (Orem n c) W
        ∗ atPos ER (recvCell c j) 0 ∅ 0)
      ⊢ iprop(((owes (c : Thread nD τ) (Orem n c) (insert (SemLoc.dma (recvS j), ()) W) ∗ part m ρ c (j.val + 2) ∗ semVal (recvCell c j) 0) -∗ WP c (k ⟨⟩) Q)
          -∗ WP c (.op (.waitDma2 sm ms md h1 h2) k) Q) := by
  subst hsm hd
  iintro ⟨#HR, #Hlev, Hc, HO, Hat⟩ Hk
  iapply (Rounds.wp_wait_rest_token 𝒱₀ ER (ringRd m ρ) (c : Thread nD τ) none (κ := K (c, .inr (true, j)))
      (wpE_waitDma2_eq 𝒱₀ (c : Thread nD τ) none Set.univ) (Set.mem_univ _) () (O := Orem n c) (W := W) (R := 0) (m := 0) (T := ∅)
      (by rw [Nat.zero_add]; exact (expect_recv m ρ c j).symm)) $$ [Hc HO Hat]
  · isplitr; · iapply (inv_at m ρ K (c, .inr (true, j))); iexact HR
    isplitl [Hc]; · iexact Hc
    isplitl [HO]; · iexact HO
    isplitr; · iapply (mayWait_recv c j n hlt); iexact Hlev
    iexact Hat
  iintro ⟨HO, Hat, -, Hpay⟩
  ihave Hp := (Entails.of_eq (rest_recv m ρ c j)) $$ Hpay
  imod (Rounds.cell_close ER (ringRd m ρ) (Set.mem_univ (K (c, .inr (true, j)))) (fun h => h) (R := 0 + 1) (duties_later m ρ (recvCell c j))) $$ [Hat] with Hz
  · isplitr; · iapply (inv_at m ρ K (c, .inr (true, j))); iexact HR
    iexact Hat
  iapply Hk
  isplitl [HO]; · iexact HO
  isplitl [Hp]; · iexact Hp
  iexact Hz

/-! ## Hops -/

/-- The transfers from `n` on, the first taken out. -/
theorem since_take {n : ℕ} {j : Fin 15} (h : j.val = n) (Φ : Fin 15 → sProp 𝕄) :
    bigSep (since n) Φ = iprop(Φ j ∗ bigSep (since (n + 1)) Φ) := by
  rw [since_step h, BI.bigSep_insert (not_mem_since h)]; rfl
theorem before_put {n : ℕ} {j : Fin 15} (h : j.val = n) (Φ : Fin 15 → sProp 𝕄) :
    bigSep (before (n + 1)) Φ = iprop(Φ j ∗ bigSep (before n) Φ) := by
  rw [before_step h, BI.bigSep_insert (not_mem_before h)]; rfl
theorem range_take (n : ℕ) (Φ : ℕ → sProp 𝕄) :
    bigSep (Finset.range (n + 1)) Φ = iprop(Φ n ∗ bigSep (Finset.range n) Φ) := by
  rw [Finset.range_add_one, BI.bigSep_insert Finset.notMem_range_self]; rfl

/-- A full hop: the clockwise and the counter-clockwise transfer enqueued, then both waits of each. -/
theorem wp_hop (c : Dev nD) (j₀ j₁ : Fin 15) (he : j₀.val % 2 = 0) (hj : j₁.val = j₀.val + 1)
    {n₀ n₁ : Dev nD} (hn₀ : n₀ = dst j₀ c) (hn₁ : n₁ = dst j₁ c)
    {m₀ m₁ : Memref sig .tc .vmem S48x1024 .bf16} (hm₀ : m₀ = slotM (src j₀.val c)) (hm₁ : m₁ = slotM (src j₁.val c))
    {s₀ r₀ s₁ r₁ : DmaSem sig} (hs₀ : s₀ = sendS j₀) (hr₀ : r₀ = recvS j₀) (hs₁ : s₁ = sendS j₁) (hr₁ : r₁ = recvS j₁)
    {hc₀ hc₁} {w₀ w₁ w₀' w₁'} {t₀ t₁} {a₀ a₁ a₂ a₃ b₀ b₁ b₂ b₃}
    {α : Type} {Q : α → sProp 𝕄} {k : PUnit → Prog (TpuEff nD τ sig (Elt F) Λ₀ .tc) α} :
    iprop(records m ρ K ∗ levAts L lv ∗ St m ρ c j₀.val)
      ⊢ iprop((St m ρ c (j₀.val + 2) -∗ WP c (k ⟨⟩) Q)
          -∗ WP c (.op (.enqueueDma m₀ (.remote (Dev.tc n₀ : Thread nD τ) m₀ (.dma s₀) hc₀) (.dma r₀) w₀ w₀' t₀) fun _ =>
            .op (.enqueueDma m₁ (.remote (Dev.tc n₁ : Thread nD τ) m₁ (.dma s₁) hc₁) (.dma r₁) w₁ w₁' t₁) fun _ =>
            .op (.waitDma2 s₀ m₀ m₀ a₀ b₀) fun _ => .op (.waitDma2 r₀ m₀ m₀ a₁ b₁) fun _ =>
            .op (.waitDma2 s₁ m₁ m₁ a₂ b₂) fun _ => .op (.waitDma2 r₁ m₁ m₁ a₃ b₃) k) Q) := by
  unfold St
  rw [since_take (j := j₀) rfl, since_take (j := j₁) hj, range_take (j₀.val + 1), range_take j₀.val,
    before_put (n := j₀.val + 1) (j := j₁) hj, before_put (n := j₀.val) (j := j₀) rfl,
    range_take (j₀.val + 2 + 1), range_take (j₀.val + 2), range_take (j₀.val + 1), range_take j₀.val]
  unfold todo fin
  iintro ⟨#HR, #Hlev, ⟨%W, HO⟩, ⟨⟨⟨Hts0, Htr0, Has0, Har0, Hc0⟩, Hl0⟩, ⟨⟨Hts1, Htr1, Has1, Har1, Hc1⟩, Hl1⟩, Htodo⟩, ⟨Hp1, Hp0, Hps⟩, Hfin⟩ Hk
  iapply (wp_enq m ρ K c n₀ j₀ hn₀ hm₀ hm₀ hs₀ hr₀ W) $$ [Hp0 Hl0 HO Hts0 Htr0]
  · isplitr; · iexact HR
    isplitl [Hp0]; · iexact Hp0
    isplitl [Hl0]; · iexact Hl0
    isplitl [HO]; · iexact HO
    isplitl [Hts0]; · iexact Hts0
    iexact Htr0
  iintro ⟨Hcs0, HO⟩
  iapply (wp_enq m ρ K c n₁ j₁ hn₁ hm₁ hm₁ hs₁ hr₁ W) $$ [Hp1 Hl1 HO Hts1 Htr1]
  · isplitr; · iexact HR
    isplitl [Hp1]; · rw [hj]; iexact Hp1
    isplitl [Hl1]; · iexact Hl1
    isplitl [HO]; · rw [hj]; iexact HO
    isplitl [Hts1]; · iexact Hts1
    iexact Htr1
  iintro ⟨Hcs1, HO⟩
  rw [show j₁.val + 1 = j₀.val + 2 by omega]
  have hlt : ∀ j : Fin 15, j.val / 2 = j₀.val / 2 → ∀ k : Fin 15, j₀.val + 2 ≤ k.val → j.val / 2 < k.val / 2 := fun j h k hk => by omega
  iapply (wp_wsend m ρ K c j₀ (j₀.val + 2) hs₀ hm₀ _) $$ [Hcs0 HO Has0]
  · isplitr; · iexact HR
    isplitr; · iexact Hlev
    isplitl [Hcs0]; · iexact Hcs0
    isplitl [HO]; · iexact HO
    iexact Has0
  iintro ⟨HO, Hp0, Hzs0⟩
  iapply (wp_wrecv m ρ K c j₀ (j₀.val + 2) (hlt j₀ rfl) hr₀ hm₀ _) $$ [Hc0 HO Har0]
  · isplitr; · iexact HR
    isplitr; · iexact Hlev
    isplitl [Hc0]; · iexact Hc0
    isplitl [HO]; · iexact HO
    iexact Har0
  iintro ⟨HO, Hp2, Hzr0⟩
  iapply (wp_wsend m ρ K c j₁ (j₀.val + 2) hs₁ hm₁ _) $$ [Hcs1 HO Has1]
  · isplitr; · iexact HR
    isplitr; · iexact Hlev
    isplitl [Hcs1]; · iexact Hcs1
    isplitl [HO]; · iexact HO
    iexact Has1
  iintro ⟨HO, Hp1, Hzs1⟩
  iapply (wp_wrecv m ρ K c j₁ (j₀.val + 2) (hlt j₁ (by omega)) hr₁ hm₁ _) $$ [Hc1 HO Har1]
  · isplitr; · iexact HR
    isplitr; · iexact Hlev
    isplitl [Hc1]; · iexact Hc1
    isplitl [HO]; · iexact HO
    iexact Har1
  iintro ⟨HO, Hp3, Hzr1⟩
  rw [hj]
  iapply Hk
  isplitl [HO]; · iexists _; iexact HO
  isplitl [Htodo]; · iexact Htodo
  isplitl [Hp0 Hp1 Hp2 Hp3 Hps]
  · isplitl [Hp3]; · rw [show j₀.val + 1 + 2 = j₀.val + 2 + 1 by omega]; iexact Hp3
    isplitl [Hp2]; · iexact Hp2
    isplitl [Hp1]; · iexact Hp1
    isplitl [Hp0]; · iexact Hp0
    iexact Hps
  isplitl [Hzs1 Hzr1]
  · isplitl [Hzs1]; · iexact Hzs1
    iexact Hzr1
  isplitl [Hzs0 Hzr0]
  · isplitl [Hzs0]; · iexact Hzs0
    iexact Hzr0
  iexact Hfin

/-- The last hop, clockwise only. -/
theorem wp_last (c : Dev nD) (j₀ : Fin 15) (he : j₀.val = 14)
    {n₀ : Dev nD} (hn₀ : n₀ = dst j₀ c) {m₀ : Memref sig .tc .vmem S48x1024 .bf16} (hm₀ : m₀ = slotM (src j₀.val c))
    {s₀ r₀ : DmaSem sig} (hs₀ : s₀ = sendS j₀) (hr₀ : r₀ = recvS j₀)
    {hc₀} {w₀ w₀'} {t₀} {a₀ a₁ b₀ b₁}
    {α : Type} {Q : α → sProp 𝕄} {k : PUnit → Prog (TpuEff nD τ sig (Elt F) Λ₀ .tc) α} :
    iprop(records m ρ K ∗ levAts L lv ∗ St m ρ c 14)
      ⊢ iprop((St m ρ c 15 -∗ WP c (k ⟨⟩) Q)
          -∗ WP c (.op (.enqueueDma m₀ (.remote (Dev.tc n₀ : Thread nD τ) m₀ (.dma s₀) hc₀) (.dma r₀) w₀ w₀' t₀) fun _ =>
            .op (.waitDma2 s₀ m₀ m₀ a₀ b₀) fun _ => .op (.waitDma2 r₀ m₀ m₀ a₁ b₁) k) Q) := by
  unfold St
  rw [since_take (n := 14) (j := j₀) he, range_take 16, range_take 15, range_take 14,
    before_put (n := 14) (j := j₀) he]
  unfold todo fin
  iintro ⟨#HR, #Hlev, ⟨%W, HO⟩, ⟨⟨⟨Hts0, Htr0, Has0, Har0, Hc0⟩, Hl0⟩, Htodo⟩, ⟨Hp1, Hp0, Hps⟩, Hfin⟩ Hk
  iapply (wp_enq m ρ K c n₀ j₀ hn₀ hm₀ hm₀ hs₀ hr₀ W) $$ [Hp0 Hl0 HO Hts0 Htr0]
  · isplitr; · iexact HR
    isplitl [Hp0]; · rw [he]; iexact Hp0
    isplitl [Hl0]; · iexact Hl0
    isplitl [HO]; · rw [he]; iexact HO
    isplitl [Hts0]; · iexact Hts0
    iexact Htr0
  iintro ⟨Hcs0, HO⟩
  rw [he]
  iapply (wp_wsend m ρ K c j₀ 15 hs₀ hm₀ _) $$ [Hcs0 HO Has0]
  · isplitr; · iexact HR
    isplitr; · iexact Hlev
    isplitl [Hcs0]; · iexact Hcs0
    isplitl [HO]; · iexact HO
    iexact Has0
  iintro ⟨HO, Hp0, Hzs0⟩
  iapply (wp_wrecv m ρ K c j₀ 15 (fun k hk => by omega) hr₀ hm₀ _) $$ [Hc0 HO Har0]
  · isplitr; · iexact HR
    isplitr; · iexact Hlev
    isplitl [Hc0]; · iexact Hc0
    isplitl [HO]; · iexact HO
    iexact Har0
  iintro ⟨HO, Hp2, Hzr0⟩
  rw [he]
  iapply Hk
  isplitl [HO]; · iexists _; iexact HO
  isplitl [Htodo]; · iexact Htodo
  isplitl [Hp0 Hp1 Hp2 Hps]
  · isplitl [Hp2]; · iexact Hp2
    isplitl [Hp1]; · iexact Hp1
    isplitl [Hp0]; · iexact Hp0
    iexact Hps
  isplitl [Hzs0 Hzr0]
  · isplitl [Hzs0]; · iexact Hzs0
    iexact Hzr0
  iexact Hfin

end Cert.Moe

end
-- ==== Proof.Body.lean ====
/-
# The kernel's body on one device
-/
module

public import proofs.«01_k».proof.Proof.Hop
public import proofs.«01_k».proof.Proof.Gen.KernelIdeal.Points

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KIx → ℕ)

/-! ## The result, and the pipeline's proof data -/

/-- The output rows' own rows of a column. -/
abbrev rowsR (c : Dev nD) : Rect S1024x1 := Rect.unit (s := S1024x1) (k0_off7 c) S64x1.size (k0_off7_inb c)

/-- The kernel's result on device `c`. -/
def outAt (c : Dev nD) : (cc0_stg3_0 : Ref sig .tc).ty.Contents (Elt F) :=
  k0_pay1 (k0_pay13 (gath m ρ)) (k0_pay14 (rM.view.readAt (Elt F) (rowsR c).toLoadRect (rstg m ρ c)))
    (pM.view.readAt (Elt F) (rowsR c).toLoadRect (k0_pay4 (rstg m ρ c))) k0_pay15 (iota .tc S64x768 32 [1] iota_S64x768_d1_w32) 12#32

/-- A device's share of the ring's records and tokens at the start. -/
def ghost (c : Dev nD) : sProp 𝕄 :=
  iprop(records m ρ K ∗ atPos ER (barCell c) 0 ∅ 0
    ∗ dutyTok ER (barCell (prv c)) 0 true ∗ dutyTok ER (barCell (nxt c)) 0 false
    ∗ bigSep Finset.univ fun j : Fin 15 => iprop(dutyTok ER (sendCell c j) 0 false ∗ dutyTok ER (recvCell (dst j c) j) 0 false
        ∗ atPos ER (sendCell c j) 0 ∅ 0 ∗ atPos ER (recvCell c j) 0 ∅ 0))

/-- What device `c`'s body starts from: that at some names, its barrier's two units and its receive cells' credits, the levels. -/
def start (c : Dev nD) : sProp 𝕄 :=
  iprop((∃ K, ghost m ρ K c) ∗ cred (tallyAt (barCell c) () 2) ∗ (bigSep Finset.univ fun j : Fin 15 => cred (tallyAt (recvCell c j) () N)) ∗ levAts L lv)

/-- The two scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers, and every cell of the device closed at zero. -/
def Φ₁ (c : Dev nD) : sProp 𝕄 := iprop(scratch c ∗ (bigSep Finset.univ fun j : Fin 15 => fin (F := F) c j) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The transfers' slots, from the program's offsets -/

theorem off5_src (c : Dev nD) (r : Fin 8) (j : Fin 15) (h : j.val = 2 * r.val) :
    k0_off5 c (BitVec.ofNat 32 r.val) = ![(src j.val c).val, 0, 0] := by
  have e : (src j.val c).val = ((c.val + 16) - r.val) % 16 := by
    show (c.val + if j.val % 2 = 0 then 16 - j.val / 2 % 16 else j.val / 2) % 16 = _
    rw [if_pos (by omega)]; omega
  rw [e]; exact k0_off5_eq c r
theorem off6_src (c : Dev nD) (r : Fin 7) (j : Fin 15) (h : j.val = 2 * r.val + 1) :
    k0_off6 c (BitVec.ofNat 32 r.val) = ![(src j.val c).val, 0, 0] := by
  have e : (src j.val c).val = (c.val + r.val) % 16 := by
    show (c.val + if j.val % 2 = 0 then 16 - j.val / 2 % 16 else j.val / 2) % 16 = _
    rw [if_neg (by omega)]; omega
  rw [e]; exact k0_off6_eq c r

/-! ## Loads and stores within the own slot -/

/-- The own slot at contents `f`, as the loads and stores name it. -/
def own (c : Dev nD) (f : (cc0_scratch0 : Ref sig .tc).ty.Contents (Elt F)) : sProp 𝕄 :=
  ((c : Thread nD τ).loc cc0_scratch0) ↦[(slotR c).set]{fullShare} f

theorem own_eq (c : Dev nD) (f : (cc0_scratch0 : Ref sig .tc).ty.Contents (Elt F)) : own c f = slotPts (F := F) c c fullShare f := by
  unfold own slotPts; rw [slot_set]

theorem rows_sub (c : Dev nD) (b : ℕ) (hb : b + 12 ≤ 48) {off : Fin 3 → Nat} (hoff : off = ![c.val, b, 0])
    (inb : ∀ a, off a + S1x12x1024.size a ≤ S16x48x1024.size a) :
    (gM.access (Rect.unit (s := S16x48x1024) off S1x12x1024.size inb) : View sig .tc _ _ _).set ⊆ (slotR c).set := by
  subst hoff
  intro i hi
  have hi' : i ∈ (Rect.unit (s := S16x48x1024) ![c.val, b, 0] S1x12x1024.size inb).set := by
    rw [← View.set_slice_whole cc0_scratch0]; exact hi
  rw [Rect.mem_set_unit] at hi'
  have h0 := hi' 0
  rw [mem_slot]
  simp at h0; omega

theorem wp_ownload (c : Dev nD) (b : ℕ) (hb : b + 12 ≤ 48) {off : Fin 3 → Nat} (hoff : off = ![c.val, b, 0])
    {inb : ∀ a, off a + S1x12x1024.size a ≤ S16x48x1024.size a} {hl}
    {α : Type} {Q : α → sProp 𝕄} {k : (S1x12x1024.Idx → Elt F .bf16) → Prog (TpuEff nD τ sig (Elt F) Λ₀ .tc) α}
    (f : (cc0_scratch0 : Ref sig .tc).ty.Contents (Elt F)) :
    own c f ⊢ iprop((∀ v, own c f -∗ WP c (k v) Q)
      -∗ WP c (.op (.load gM (Rect.unit (s := S16x48x1024) off S1x12x1024.size inb).toLoadRect hl) k) Q) := by
  unfold own
  iintro H Hk
  iapply (wp_load_rect 𝒱₀ (c : Thread nD τ) none Set.univ (m := gM) (r := Rect.unit (s := S16x48x1024) off S1x12x1024.size inb) (rows_sub c b hb hoff inb)) $$ H
  iintro H
  iapply Hk; iexact H

theorem wp_ownstore (c : Dev nD) (b : ℕ) (hb : b + 12 ≤ 48) {off : Fin 3 → Nat} (hoff : off = ![c.val, b, 0])
    {inb : ∀ a, off a + S1x12x1024.size a ≤ S16x48x1024.size a} {w : S1x12x1024.Idx → Elt F .bf16} {hx hm}
    {α : Type} {Q : α → sProp 𝕄} {k : PUnit → Prog (TpuEff nD τ sig (Elt F) Λ₀ .tc) α}
    (f : (cc0_scratch0 : Ref sig .tc).ty.Contents (Elt F)) :
    own c f ⊢ iprop((own c ((gM.access (Rect.unit (s := S16x48x1024) off S1x12x1024.size inb) : View sig .tc _ _ _).write (Elt F) f w Finset.univ) -∗ WP c (k ⟨⟩) Q)
      -∗ WP c (.op (.store gM (Rect.unit (s := S16x48x1024) off S1x12x1024.size inb) w Finset.univ hx hm) k) Q) := by
  unfold own
  exact wp_store 𝒱₀ (c : Thread nD τ) none Set.univ (m := gM) (r := Rect.unit (s := S16x48x1024) off S1x12x1024.size inb) (Mk := Finset.univ)
    (rows_sub c b hb hoff inb)

/-! ## The slots handed to the neighbours, and the state at the first hop -/

theorem give_land (c : Dev nD) (j : Fin 15) (f : (cc0_scratch0 : Ref sig .tc).ty.Contents (Elt F)) :
    slotPts c (src (j.val + 2) c) fullShare f ⊢ land (fro j c) j := by
  unfold land
  rw [dst_fro, ← src_dst j (fro j c), dst_fro]
  iintro H; iexists f; iexact H

theorem give_bar (c : Dev nD) (f : (cc0_scratch0 : Ref sig .tc).ty.Contents (Elt F)) :
    (bigSep Finset.univ fun j : Fin 15 => slotPts c (src (j.val + 2) c) fullShare f) ⊢ iprop(barPay (prv c) true ∗ barPay (nxt c) false) := by
  rw [BI.bigSep_filter_split Finset.univ (fun j : Fin 15 => isCw j = true),
    Finset.filter_congr (p := fun j : Fin 15 => ¬isCw j = true) (q := fun j : Fin 15 => isCw j = false) fun j _ => by rw [Bool.not_eq_true]]
  unfold barPay
  refine BI.sep_mono (bigSep_mono fun j hj => ?_) (bigSep_mono fun j hj => ?_)
  · have e : fro j c = prv c := if_pos (Finset.mem_filter.mp hj).2
    rw [← e]; exact give_land c j f
  · have e : fro j c = nxt c := if_neg (by rw [(Finset.mem_filter.mp hj).2]; exact Bool.false_ne_true)
    rw [← e]; exact give_land c j f

/-- The own slot filled is the sources of the two first transfers. -/
theorem own_parts (c : Dev nD) : own c (gath m ρ) ⊢ bigSep (Finset.range (0 + 2)) fun k => part m ρ c k := by
  rw [own_eq, range_take (0 + 1), range_take 0, Finset.range_zero, bigSep_empty]
  unfold part
  rw [src_zero, src_one]
  refine (slotPts_halves c c (gath m ρ)).1.trans ?_
  iintro ⟨Hl, Hr⟩
  isplitl [Hr]; · iexact Hr
  isplitl [Hl]; · iexact Hl
  iempintro

/-- The parts after the last hop are the whole buffer. -/
theorem parts_whole (c : Dev nD) : (bigSep (Finset.range (15 + 2)) fun k => part m ρ c k) ⊢ (((c : Thread nD τ).loc cc0_scratch0) ↦{fullShare} gath m ρ : sProp 𝕄) := by
  have e : Finset.range (15 + 2) = insert 0 (insert 1 (Finset.univ.map ⟨fun j : Fin 15 => j.val + 2, fun a b h => Fin.ext (Nat.add_right_cancel h)⟩)) := by decide
  have h : (bigSep (Finset.range (15 + 2)) fun k => part m ρ c k)
      = iprop(slotPts c c fullShare.left (gath m ρ) ∗ slotPts c c fullShare.right (gath m ρ)
        ∗ bigSep Finset.univ fun j : Fin 15 => slotPts c (src (j.val + 2) c) fullShare (gath m ρ)) := by
    rw [e, BI.bigSep_insert (by decide), BI.bigSep_insert (by decide), bigSep_map]
    unfold part
    rw [src_zero, src_one]; rfl
  rw [h, whole_slots]
  iintro ⟨Hl, Hr, Hs⟩
  isplitl [Hl Hr]
  · iapply (slotPts_halves c c (gath m ρ)).2
    isplitl [Hl]; · iexact Hl
    iexact Hr
  iexact Hs

theorem todo_all (c : Dev nD) :
    iprop((bigSep Finset.univ fun j : Fin 15 => iprop(dutyTok ER (sendCell c j) 0 false ∗ dutyTok ER (recvCell (dst j c) j) 0 false
          ∗ atPos ER (sendCell c j) 0 ∅ 0 ∗ atPos ER (recvCell c j) 0 ∅ 0))
      ∗ (bigSep Finset.univ fun j : Fin 15 => cred (tallyAt (recvCell c j) () N))
      ∗ (bigSep Finset.univ fun j : Fin 15 => land c j))
      ⊢ (bigSep Finset.univ fun j : Fin 15 => iprop(todo c j ∗ land c j) : sProp 𝕄) := by
  refine (BI.sep_mono (BI.Entails.refl _) (Entails.of_eq (bigSep_sep' Finset.univ _ _).symm)).trans ?_
  refine (Entails.of_eq (bigSep_sep' Finset.univ _ _).symm).trans (bigSep_mono fun j _ => ?_)
  show iprop((dutyTok ER (sendCell c j) 0 false ∗ dutyTok ER (recvCell (dst j c) j) 0 false
      ∗ atPos ER (sendCell c j) 0 ∅ 0 ∗ atPos ER (recvCell c j) 0 ∅ 0) ∗ (cred (tallyAt (recvCell c j) () N) ∗ land c j))
    ⊢ (iprop((dutyTok ER (sendCell c j) 0 false ∗ dutyTok ER (recvCell (dst j c) j) 0 false
      ∗ atPos ER (sendCell c j) 0 ∅ 0 ∗ atPos ER (recvCell c j) 0 ∅ 0 ∗ cred (tallyAt (recvCell c j) () N)) ∗ land c j) : sProp 𝕄)
  iintro ⟨⟨H1, H2, H3, H4⟩, H5, H6⟩
  isplitr [H6]
  · isplitl [H1]; · iexact H1
    isplitl [H2]; · iexact H2
    isplitl [H3]; · iexact H3
    isplitl [H4]; · iexact H4
    iexact H5
  iexact H6

theorem st_zero (c : Dev nD) (W : Waits sig Unit) :
    iprop(owes (c : Thread nD τ) (Orem 0 c) W
      ∗ (bigSep Finset.univ fun j : Fin 15 => iprop(dutyTok ER (sendCell c j) 0 false ∗ dutyTok ER (recvCell (dst j c) j) 0 false
          ∗ atPos ER (sendCell c j) 0 ∅ 0 ∗ atPos ER (recvCell c j) 0 ∅ 0))
      ∗ (bigSep Finset.univ fun j : Fin 15 => cred (tallyAt (recvCell c j) () N))
      ∗ (bigSep Finset.univ fun j : Fin 15 => land c j) ∗ own c (gath m ρ)) ⊢ St m ρ c 0 := by
  unfold St
  rw [since_zero, before_zero, bigSep_empty]
  iintro ⟨HO, Ht, Hc, Hl, Hown⟩
  isplitl [HO]; · iexists W; iexact HO
  isplitl [Ht Hc Hl]
  · iapply (todo_all c)
    isplitl [Ht]; · iexact Ht
    isplitl [Hc]; · iexact Hc
    iexact Hl
  isplitl [Hown]; · iapply (own_parts m ρ c); iexact Hown
  iempintro

/-! ## The body -/

theorem hz2 : (![0, 0] : Fin 2 → Nat) = fun _ => 0 := funext fun a => by fin_cases a <;> rfl
theorem hz3 : (![0, 0, 0] : Fin 3 → Nat) = fun _ => 0 := funext fun a => by fin_cases a <;> rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 2) ∗ (bigSep Finset.univ fun j : Fin 15 => cred (tallyAt (recvCell c j) () N)) ∗ levAts L lv ∗ scratch c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ ∗ stg c cc0_stg0_0 (xstg m ρ c) ∗ stg c cc0_stg1_0 (rstg m ρ c)
    ∗ stg c cc0_stg2_0 (wstg m ρ c) ∗ stg c cc0_stg3_0 (outAt m ρ c))

set_option maxHeartbeats 4000000 in
set_option maxRecDepth 8000 in
/-- The body from `bodyPre` to `bodyPost`, one rule per effect up to the first transfer, then one per hop. -/
theorem sound_body (c : Dev nD) (Kt : PUnit → sProp 𝕄) :
    iprop(bodyPre m ρ K c ∗ (bodyPost m ρ c -∗ Kt ⟨⟩))
      ⊢ wp Idealize.ShloMosaic.frame (wpE (defs₀ (F := F)) 𝒱₀ c none) Set.univ (bodyAt0 (F := F) t0_0) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre ghost scratch
  iintro ⟨⟨⟨⟨#HR, HatB, HtP, HtN, Htok⟩, HcB, Hcr, #Hlev, ⟨%f0, Hscr⟩, ⟨%p0, Hpos⟩⟩,
    Ho, ⟨%d0, %g0, %hg0, Hx⟩, ⟨%d1, %g1, %hg1, Hr⟩, ⟨%d2, %g2, %hg2, Hw⟩, ⟨%d3, %g3, %hg3, Hout⟩⟩, Hk⟩
  have hx : g0 = xstg m ρ c := by rw [hg0]; unfold Dat.before; rw [if_pos (fetch0_0 t0_0)]; rfl
  have hr : g1 = rstg m ρ c := by rw [hg1]; unfold Dat.before; rw [if_pos (fetch0_1 t0_0)]; rfl
  have hw : g2 = wstg m ρ c := by rw [hg2]; unfold Dat.before; rw [if_pos (fetch0_2 t0_0)]; rfl
  subst hx hr hw
  unfold Dat.owesAt Pipeline.owesWithin
  icases Ho with ⟨%W, %hW, HO⟩
  rw [show (dats m ρ 0 c).owed t0_0.castSucc = O₀ c from rfl]
  simp only [dev1_eq c, dev2_eq c]
  ihave Hslots := (Entails.of_eq (whole_slots c f0)) $$ Hscr
  icases Hslots with ⟨Hown, Hothers⟩
  ihave Hgive := (give_bar c f0) $$ Hothers
  icases Hgive with ⟨HgP, HgN⟩
  -- the first signal, to the previous device: the slots its even transfers write
  iapply (Rounds.wp_signal 𝒱₀ ER (ringRd m ρ) (c : Thread nD τ) none (dst := (prv c : Thread nD τ)) (κ := K (prv c, .inl ()))
      (d := true) (by rw [duties_bar]; exact Finset.mem_univ _) ((amount_bar m ρ (prv c) true).trans (by decide)) () (O₁ c) rfl)
    $$ [HO HtP HgP]
  · isplitr; · iapply (inv_at m ρ K (prv c, .inl ())); iexact HR
    isplitl [HO]; · iexact HO
    isplitl [HtP]; · iexact HtP
    isplitl [HgP]; · rw [payload_bar]; iexact HgP
    iapply (reached_at m ρ K (prv c, .inl ())); iexact HR
  iintro HO
  unfold O₁
  -- the second, to the next device: the slots its odd transfers write
  iapply (Rounds.wp_signal 𝒱₀ ER (ringRd m ρ) (c : Thread nD τ) none (dst := (nxt c : Thread nD τ)) (κ := K (nxt c, .inl ()))
      (d := false) (by rw [duties_bar]; exact Finset.mem_univ _) ((amount_bar m ρ (nxt c) false).trans (by decide)) () (Orem 0 c) rfl)
    $$ [HO HtN HgN]
  · isplitr; · iapply (inv_at m ρ K (nxt c, .inl ())); iexact HR
    isplitl [HO]; · iexact HO
    isplitl [HtN]; · iexact HtN
    isplitl [HgN]; · rw [payload_bar]; iexact HgN
    iapply (reached_at m ρ K (nxt c, .inl ())); iexact HR
  iintro HO
  -- the wait for both neighbours' signals
  iapply (Rounds.wp_wait_rest_token 𝒱₀ ER (ringRd m ρ) (c : Thread nD τ) none (κ := K (c, .inl ()))
      (wpE_semWait_eq 𝒱₀ (c : Thread nD τ) none Set.univ) (Set.mem_univ _) () (O := Orem 0 c) (W := W) (R := 0) (m := 0) (T := ∅)
      (by rw [expect_bar]; decide)) $$ [HcB HO HatB]
  · isplitr; · iapply (inv_at m ρ K (c, .inl ())); iexact HR
    isplitl [HcB]; · iexact HcB
    isplitl [HO]; · iexact HO
    isplitr; · iapply (mayWait_bar c); iexact Hlev
    iexact HatB
  iintro ⟨HO, HatB, -, Hpay⟩
  ihave Hland := (Entails.of_eq (rest_bar m ρ c)) $$ Hpay
  imod (Rounds.cell_close ER (ringRd m ρ) (Set.mem_univ (K (c, .inl ()))) (fun h => h) (R := 0 + 1) (duties_later m ρ (barCell c))) $$ [HatB] with HzB
  · isplitr; · iapply (inv_at m ρ K (c, .inl ())); iexact HR
    iexact HatB
  -- the routes, the positions
  iapply (wp_load 𝒱₀ (c : Thread nD τ) none Set.univ (m := rM) (Finset.subset_univ _)) $$ Hr; iintro Hr
  rw [show rM.view.readAt (Elt F) (Rect.unit (s := S1024x1) ![0, 0] S1024x1.size inb_S1024x1_S1024x1_0_0).toLoadRect (rstg m ρ c) = rstg m ρ c
    from Memref.readAt_unit_zero (Elt F) cc0_stg1_0 hz2 _ _]
  iapply (wp_load 𝒱₀ (c : Thread nD τ) none Set.univ (m := pM) (Finset.subset_univ _)) $$ Hpos; iintro Hpos
  iapply (wp_store 𝒱₀ (c : Thread nD τ) none Set.univ (m := pM) (r := Rect.unit (s := S1024x1) ![0, 0] S1024x1.size inb_S1024x1_S1024x1_0_0) (Mk := Finset.univ)
    (Finset.subset_univ _)) $$ Hpos; iintro Hpos
  rw [show (pM.access (Rect.unit (s := S1024x1) ![0, 0] S1024x1.size inb_S1024x1_S1024x1_0_0) : View sig .tc _ _ _).write (Elt F) p0 (k0_pay4 (rstg m ρ c)) Finset.univ
    = k0_pay4 (rstg m ρ c) from Memref.write_access_unit_zero_univ (Elt F) cc0_scratch1 hz2 _ _ _]
  -- the own slot, three rows of experts' products at a time
  iapply (wp_load 𝒱₀ (c : Thread nD τ) none Set.univ (m := xM) (Finset.subset_univ _)) $$ Hx; iintro Hx
  rw [show xM.view.readAt (Elt F) (Rect.unit (s := S1024x512) ![0, 0] S1024x512.size inb_S1024x512_S1024x512_0_0).toLoadRect (xstg m ρ c) = xstg m ρ c
    from Memref.readAt_unit_zero (Elt F) cc0_stg0_0 hz2 _ _]
  ihave Hown' := (Entails.of_eq (own_eq c f0).symm) $$ Hown
  iapply (wp_load 𝒱₀ (c : Thread nD τ) none Set.univ (m := wM) (Finset.subset_univ _)) $$ Hw; iintro Hw
  iapply (wp_ownload c 0 (by decide) (k0_off1_eq c) _) $$ Hown'; iintro %v1 Hown'
  iapply (wp_ownstore c 0 (by decide) (k0_off1_eq c) _) $$ Hown'; iintro Hown'
  iapply (wp_load 𝒱₀ (c : Thread nD τ) none Set.univ (m := wM) (Finset.subset_univ _)) $$ Hw; iintro Hw
  iapply (wp_ownload c 12 (by decide) (k0_off2_eq c) _) $$ Hown'; iintro %v2 Hown'
  iapply (wp_ownstore c 12 (by decide) (k0_off2_eq c) _) $$ Hown'; iintro Hown'
  iapply (wp_load 𝒱₀ (c : Thread nD τ) none Set.univ (m := wM) (Finset.subset_univ _)) $$ Hw; iintro Hw
  iapply (wp_ownload c 24 (by decide) (k0_off3_eq c) _) $$ Hown'; iintro %v3 Hown'
  iapply (wp_ownstore c 24 (by decide) (k0_off3_eq c) _) $$ Hown'; iintro Hown'
  iapply (wp_load 𝒱₀ (c : Thread nD τ) none Set.univ (m := wM) (Finset.subset_univ _)) $$ Hw; iintro Hw
  iapply (wp_ownload c 36 (by decide) (k0_off4_eq c) _) $$ Hown'; iintro %v4 Hown'
  iapply (wp_ownstore c 36 (by decide) (k0_off4_eq c) _) $$ Hown'; iintro Hown'
  have hst := own_stores m ρ c f0
  unfold piece0 piece1 piece2 piece3 at hst
  ihave Hown := (Entails.of_eq ((own_eq c _).trans ((slotPts_congr c c fullShare hst).trans (own_eq c (gath m ρ)).symm))) $$ Hown'
  ihave HSt := (st_zero m ρ c (insert (SemLoc.reg barS, ()) W)) $$ [HO Htok Hcr Hland Hown]
  · isplitl [HO]; · iexact HO
    isplitl [Htok]; · iexact Htok
    isplitl [Hcr]; · iexact Hcr
    isplitl [Hland]; · iexact Hland
    iexact Hown
  -- the seven full hops and the last
  iapply (wp_hop m ρ K c 0 1 rfl rfl
      (show (⟨k0_dev3 c, k0_dev3_lt c⟩ : Dev nD) = dst 0 c from Fin.ext (k0_dev3_eq c))
      (show (⟨k0_dev4 c, k0_dev4_lt c⟩ : Dev nD) = dst 1 c from Fin.ext (k0_dev4_eq c))
      (slotM_eq _ (off5_src c 0 0 rfl) _) (slotM_eq _ (off6_src c 0 1 rfl) _) rfl rfl rfl rfl) $$ [HSt]
  · isplitr; · iexact HR
    isplitr; · iexact Hlev
    iexact HSt
  iintro HSt
  iapply (wp_hop m ρ K c 2 3 rfl rfl
      (show (⟨k0_dev5 c, k0_dev5_lt c⟩ : Dev nD) = dst 2 c from Fin.ext (k0_dev5_eq c))
      (show (⟨k0_dev6 c, k0_dev6_lt c⟩ : Dev nD) = dst 3 c from Fin.ext (k0_dev6_eq c))
      (slotM_eq _ (off5_src c 1 2 rfl) _) (slotM_eq _ (off6_src c 1 3 rfl) _) rfl rfl rfl rfl) $$ [HSt]
  · isplitr; · iexact HR
    isplitr; · iexact Hlev
    iexact HSt
  iintro HSt
  iapply (wp_hop m ρ K c 4 5 rfl rfl
      (show (⟨k0_dev7 c, k0_dev7_lt c⟩ : Dev nD) = dst 4 c from Fin.ext (k0_dev7_eq c))
      (show (⟨k0_dev8 c, k0_dev8_lt c⟩ : Dev nD) = dst 5 c from Fin.ext (k0_dev8_eq c))
      (slotM_eq _ (off5_src c 2 4 rfl) _) (slotM_eq _ (off6_src c 2 5 rfl) _) rfl rfl rfl rfl) $$ [HSt]
  · isplitr; · iexact HR
    isplitr; · iexact Hlev
    iexact HSt
  iintro HSt
  iapply (wp_hop m ρ K c 6 7 rfl rfl
      (show (⟨k0_dev9 c, k0_dev9_lt c⟩ : Dev nD) = dst 6 c from Fin.ext (k0_dev9_eq c))
      (show (⟨k0_dev10 c, k0_dev10_lt c⟩ : Dev nD) = dst 7 c from Fin.ext (k0_dev10_eq c))
      (slotM_eq _ (off5_src c 3 6 rfl) _) (slotM_eq _ (off6_src c 3 7 rfl) _) rfl rfl rfl rfl) $$ [HSt]
  · isplitr; · iexact HR
    isplitr; · iexact Hlev
    iexact HSt
  iintro HSt
  iapply (wp_hop m ρ K c 8 9 rfl rfl
      (show (⟨k0_dev11 c, k0_dev11_lt c⟩ : Dev nD) = dst 8 c from Fin.ext (k0_dev11_eq c))
      (show (⟨k0_dev12 c, k0_dev12_lt c⟩ : Dev nD) = dst 9 c from Fin.ext (k0_dev12_eq c))
      (slotM_eq _ (off5_src c 4 8 rfl) _) (slotM_eq _ (off6_src c 4 9 rfl) _) rfl rfl rfl rfl) $$ [HSt]
  · isplitr; · iexact HR
    isplitr; · iexact Hlev
    iexact HSt
  iintro HSt
  iapply (wp_hop m ρ K c 10 11 rfl rfl
      (show (⟨k0_dev13 c, k0_dev13_lt c⟩ : Dev nD) = dst 10 c from Fin.ext (k0_dev13_eq c))
      (show (⟨k0_dev14 c, k0_dev14_lt c⟩ : Dev nD) = dst 11 c from Fin.ext (k0_dev14_eq c))
      (slotM_eq _ (off5_src c 5 10 rfl) _) (slotM_eq _ (off6_src c 5 11 rfl) _) rfl rfl rfl rfl) $$ [HSt]
  · isplitr; · iexact HR
    isplitr; · iexact Hlev
    iexact HSt
  iintro HSt
  iapply (wp_hop m ρ K c 12 13 rfl rfl
      (show (⟨k0_dev15 c, k0_dev15_lt c⟩ : Dev nD) = dst 12 c from Fin.ext (k0_dev15_eq c))
      (show (⟨k0_dev16 c, k0_dev16_lt c⟩ : Dev nD) = dst 13 c from Fin.ext (k0_dev16_eq c))
      (slotM_eq _ (off5_src c 6 12 rfl) _) (slotM_eq _ (off6_src c 6 13 rfl) _) rfl rfl rfl rfl) $$ [HSt]
  · isplitr; · iexact HR
    isplitr; · iexact Hlev
    iexact HSt
  iintro HSt
  iapply (wp_last m ρ K c 14 rfl
      (show (⟨k0_dev17 c, k0_dev17_lt c⟩ : Dev nD) = dst 14 c from Fin.ext (k0_dev17_eq c))
      (slotM_eq _ (off5_src c 7 14 rfl) _) rfl rfl) $$ [HSt]
  · isplitr; · iexact HR
    isplitr; · iexact Hlev
    iexact HSt
  iintro HSt
  unfold St
  rw [Orem_end, since_end, before_end, bigSep_empty]
  icases HSt with ⟨⟨%W', HO⟩, -, Hparts, Hfin⟩
  ihave Hscr := (parts_whole m ρ c) $$ Hparts
  -- the whole buffer, the own rows of routes and positions; the result
  iapply (wp_load 𝒱₀ (c : Thread nD τ) none Set.univ (m := gM) (Finset.subset_univ _)) $$ Hscr; iintro Hscr
  rw [show gM.view.readAt (Elt F) (Rect.unit (s := S16x48x1024) ![0, 0, 0] S16x48x1024.size inb_S16x48x1024_S16x48x1024_0_0_0).toLoadRect (gath m ρ) = gath m ρ
    from Memref.readAt_unit_zero (Elt F) cc0_scratch0 hz3 _ _]
  iapply (wp_load 𝒱₀ (c : Thread nD τ) none Set.univ (m := rM) (Finset.subset_univ _)) $$ Hr; iintro Hr
  iapply (wp_load 𝒱₀ (c : Thread nD τ) none Set.univ (m := pM) (Finset.subset_univ _)) $$ Hpos; iintro Hpos
  iapply (wp_load 𝒱₀ (c : Thread nD τ) none Set.univ (m := oM) (Finset.subset_univ _)) $$ Hout; iintro Hout
  iapply (wp_store 𝒱₀ (c : Thread nD τ) none Set.univ (m := oM) (r := Rect.unit (s := S64x1024) ![0, 0] S64x1024.size inb_S64x1024_S64x1024_0_0) (Mk := Finset.univ)
    (Finset.subset_univ _)) $$ Hout; iintro Hout
  rw [show ∀ w, (oM.access (Rect.unit (s := S64x1024) ![0, 0] S64x1024.size inb_S64x1024_S64x1024_0_0) : View sig .tc _ _ _).write (Elt F) g3 w Finset.univ
    = w from fun w => Memref.write_access_unit_zero_univ (Elt F) cc0_stg3_0 hz2 _ _ _]
  rw [wp_ret]; imodintro
  iapply Hk
  unfold bodyPost Φ₁ scratch Dat.owesAt Pipeline.owesWithin
  rw [show (dats m ρ 0 c).owed t0_0.succ = 0 from rfl]
  isplitl [Hscr Hpos Hfin HzB]
  · isplitl [Hscr Hpos]
    · isplitl [Hscr]; · iexists _; iexact Hscr
      iexists _; iexact Hpos
    isplitl [Hfin]; · iexact Hfin
    iexact HzB
  isplitl [HO]
  · iexists W'
    isplitr; · ipureintro; exact fun _ _ => Or.inl trivial
    iexact HO
  isplitl [Hx]; · iexists _; isplitr; · (ipureintro; rfl)
                  iexact Hx
  isplitl [Hr]; · iexists _; isplitr; · (ipureintro; rfl)
                  iexact Hr
  isplitl [Hw]; · iexists _; isplitr; · (ipureintro; rfl)
                  iexact Hw
  iexists _; isplitr; · (ipureintro; rfl)
  iexact Hout

end Cert.Moe

end
-- ==== Proof.Launch.lean ====
/-
# The launch: every fair run of the sixteen devices ends, with each device's result array at what its body computes
-/
module

public import proofs.«01_k».proof.Proof.Body
public import proofs.«01_k».proof.Proof.Gen.KernelIdeal.Launch
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

def bodyPre' (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ (bodyAt0 (F := F) t0_0) (fun _ => bodyPost m ρ c)
  unfold bodyPre' Φ₀ start
  iintro ⟨⟨⟨⟨%K, Hg⟩, Hrest⟩, Hscr⟩, Ho, Hx, Hr, Hw, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hr]; · iexact Hr
    isplitl [Hw]; · iexact Hw
    iexact Hout
  · iintro H; iexact H

/-! ## The cells and tokens of the launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (_ | ⟨b, j⟩) (_ | ⟨b', j'⟩) h
  · rfl
  · cases b' <;> cases h
  · cases b <;> cases h
  · cases b <;> cases b'
    · have e : j = j' := sendS_inj (SemLoc.dma.inj h)
      rw [e]
    · exact absurd (SemLoc.dma.inj h) (send_ne_recv j j')
    · exact absurd (SemLoc.dma.inj h).symm (send_ne_recv j' j)
    · have e : j = j' := recvS_inj (SemLoc.dma.inj h)
      rw [e]

theorem dev_of_cell {c c' : Dev nD} {a b : SemLoc sig} (h : (((c : Thread nD τ), a) : GSem nD τ sig) = ((c' : Thread nD τ), b)) : c = c' :=
  Fin.ext (congrArg (fun g : GSem nD τ sig => g.1.1.val) h)

theorem kcell_injective : Function.Injective (kcell : Dev nD × KIx → GSem nD τ sig) := by
  rintro ⟨c, k⟩ ⟨c', k'⟩ h
  have e : c = c' := dev_of_cell h
  have e' : k = k' := csem_injective (congrArg Prod.snd h)
  rw [e, e']

def ringCells : Finset (GSem nD τ sig) := Finset.univ.map ⟨kcell, kcell_injective⟩

/-- The duties of a device's own cells: its barrier's two, one at each send and receive cell. -/
abbrev TIx : Type := Bool ⊕ (Bool × Fin 15)
abbrev tokOf (ct : Dev nD × TIx) : GSem nD τ sig × ℕ × Bool :=
  (kcell (ct.1, Sum.map (fun _ => ()) id ct.2), 0, Sum.elim id (fun _ => false) ct.2)

theorem tokOf_injective : Function.Injective (tokOf : Dev nD × TIx → GSem nD τ sig × ℕ × Bool) := by
  rintro ⟨c, t⟩ ⟨c', t'⟩ h
  have h1 := kcell_injective (congrArg Prod.fst h)
  have h2 : Sum.elim id (fun _ => false) t = (Sum.elim id (fun _ => false) t' : Bool) := congrArg (fun x : GSem nD τ sig × ℕ × Bool => x.2.2) h
  have h3 := congrArg Prod.fst h1
  have h4 : Sum.map (fun _ : Bool => ()) id t = (Sum.map (fun _ : Bool => ()) id t' : KIx) := congrArg Prod.snd h1
  cases h3
  rcases t with b | p <;> rcases t' with b' | p'
  · cases (show b = b' from h2); rfl
  · cases h4
  · cases h4
  · cases Sum.inr.inj h4; rfl

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 true ∗ dutyTok ER (barCell c) 0 false)
    ∗ (bigSep Finset.univ fun j : Fin 15 => dutyTok ER (sendCell c j) 0 false)
    ∗ bigSep Finset.univ fun j : Fin 15 => dutyTok ER (recvCell c j) 0 false)

/-- What the launch element deals device `c`. -/
def G (c : Dev nD) : sProp 𝕄 :=
  iprop((bigSep Finset.univ fun k : KIx => roundState ER (ringRd m ρ) (kcell (c, k)) 0)
    ∗ (bigSep Finset.univ fun k : KIx => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_bool (Φ : Bool → sProp 𝕄) : bigSep Finset.univ Φ = iprop(Φ true ∗ Φ false) :=
  bigSep_univ_eq_bigSepL [true, false] (by decide) (by decide) Φ
theorem bigSep_dir (Φ : Bool × Fin 15 → sProp 𝕄) :
    bigSep Finset.univ Φ = iprop((bigSep Finset.univ fun j => Φ (false, j)) ∗ bigSep Finset.univ fun j => Φ (true, j)) := by
  rw [bigSep_univ_prod]
  exact bigSep_univ_eq_bigSepL [false, true] (by decide) (by decide) fun a => bigSep Finset.univ fun b => Φ (a, b)
theorem bigSep_kix (Φ : KIx → sProp 𝕄) :
    bigSep Finset.univ Φ = iprop(Φ (.inl ()) ∗ (bigSep Finset.univ fun j => Φ (.inr (false, j))) ∗ bigSep Finset.univ fun j => Φ (.inr (true, j))) := by
  rw [bigSep_univ_sum, bigSep_dir, show (bigSep Finset.univ fun a : Unit => Φ (.inl a)) = Φ (.inl ()) from
    bigSep_univ_eq_bigSepL [()] (by decide) (by decide) fun a => Φ (.inl a)]
  rfl
theorem toks_eq (c : Dev nD) :
    (bigSep Finset.univ fun t : TIx => (dutyTok ER (tokOf (c, t)).1 (tokOf (c, t)).2.1 (tokOf (c, t)).2.2 : sProp 𝕄)) = toks c := by
  rw [bigSep_univ_sum, bigSep_dir, bigSep_bool]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun j : Fin 15 => semVal (sendCell c j) 0) ∗ bigSep Finset.univ fun j : Fin 15 => semVal (recvCell c j) 0) := by
  unfold Pipeline.ownSems0; rw [bigSep_dir]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KIx => semVal (kcell (c, k)) 0 : sProp 𝕄) := by
  rw [ownSems0_eq, unscopedSems0_eq, bigSep_kix]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KIx => semVal (kcell (c, k)) 0) ∗ bigSep Finset.univ fun k : KIx => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def payToks (c : Dev nD) : sProp 𝕄 :=
  iprop((dutyTok ER (barCell (prv c)) 0 true ∗ dutyTok ER (barCell (nxt c)) 0 false)
    ∗ (bigSep Finset.univ fun j : Fin 15 => dutyTok ER (sendCell c j) 0 false)
    ∗ bigSep Finset.univ fun j : Fin 15 => dutyTok ER (recvCell (dst j c) j) 0 false)
def linear (c : Dev nD) : sProp 𝕄 :=
  iprop((bigSep Finset.univ fun k : KIx => atPos ER (kcell (c, k)) 0 ∅ 0) ∗ payToks c)

theorem ghost_intro (K : Dev nD × KIx → ℕ) (c : Dev nD) : iprop(records m ρ K ∗ linear c) ⊢ G' m ρ c := by
  unfold linear payToks G' ghost
  rw [bigSep_kix, bigSep_sep', bigSep_sep', bigSep_sep']
  iintro ⟨HR, ⟨HaB, HaS, HaV⟩, ⟨HtP, HtN⟩, HtS, HtV⟩
  iexists K
  isplitl [HR]; · iexact HR
  isplitl [HaB]; · iexact HaB
  isplitl [HtP]; · iexact HtP
  isplitl [HtN]; · iexact HtN
  isplitl [HtS]; · iexact HtS
  isplitl [HtV]; · iexact HtV
  isplitl [HaS]; · iexact HaS
  iexact HaV

/-- A product taken per device and per transfer is that with each transfer's devices renamed by its shift. -/
theorem bigSep_around (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (dst j c) j := by
  have sw (Ψ : Dev nD → Fin 15 → sProp 𝕄) : (bigSep Finset.univ fun c : Dev nD => bigSep Finset.univ fun j : Fin 15 => Ψ c j)
      = bigSep Finset.univ fun j : Fin 15 => bigSep Finset.univ fun c : Dev nD => Ψ c j :=
    ((bigSep_univ_prod fun p : Dev nD × Fin 15 => Ψ p.1 p.2).symm.trans
      (bigSep_univ_equiv (Equiv.prodComm (Fin 15) (Dev nD)) fun p : Dev nD × Fin 15 => Ψ p.1 p.2)).trans
      (bigSep_univ_prod fun p : Fin 15 × Dev nD => Ψ p.2 p.1)
  rw [sw, sw]
  exact bigSep_congr fun j _ => bigSep_univ_equiv (around j) fun c => Φ c j

/-- The tokens dealt around the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring.symm (fun c : Dev nD => (dutyTok ER (barCell c) 0 true : sProp 𝕄)),
    bigSep_univ_equiv ring (fun c : Dev nD => (dutyTok ER (barCell c) 0 false : sProp 𝕄)),
    bigSep_around fun c j => (dutyTok ER (recvCell c j) 0 false : sProp 𝕄)]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × KIx => iprop(∃ κ : ℕ, cellInv ER (ringRd m ρ) κ (kcell ck))),
    bigSep_congr (s := Finset.univ) (fun (c : Dev nD) _ => bigSep_sep' Finset.univ (fun k : KIx => (atPos ER (kcell (c, k)) 0 ∅ 0 : sProp 𝕄)) (fun k => reached ER (kcell (c, k)) 0)),
    bigSep_sep', ← bigSep_univ_prod (fun ck : Dev nD × KIx => (reached ER (kcell ck) 0 : sProp 𝕄))]
  iintro ⟨HI, ⟨Hat, #HR⟩, Htok⟩
  ihave HK := (BI.bigSep_exists_pi Finset.univ (fun (ck : Dev nD × KIx) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : KIx => (atPos ER (kcell (c, k)) 0 ∅ 0 : sProp 𝕄)) payToks).symm)
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) := ⟨dev_of_cell, fun h => h ▸ rfl⟩

theorem Orem_bar (n : ℕ) (d c : Dev nD) : Orem n d (barCell c) () = 0 := by
  by_contra h
  obtain ⟨j, -, e⟩ := Orem_pos (Nat.pos_of_ne_zero h)
  cases (congrArg Prod.snd e)

/-- What device `d` owes device `c`'s barrier cell: a unit to each of its two neighbours. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, Orem_bar, tallyAt_apply, tallyAt_apply, Nat.zero_add]
  have e1 : Iff (barCell c = barCell (nxt d) ∧ () = ()) (d = prv c) := by
    rw [bar_eq_iff]; exact ⟨fun h => by rw [h.1, prv_nxt], fun h => ⟨by rw [h, nxt_prv], rfl⟩⟩
  have e2 : Iff (barCell c = barCell (prv d) ∧ () = ()) (d = nxt c) := by
    rw [bar_eq_iff]; exact ⟨fun h => by rw [h.1, nxt_prv], fun h => ⟨by rw [h, prv_nxt], rfl⟩⟩
  rw [if_congr e1 rfl rfl, if_congr e2 rfl rfl]

/-- What it owes device `c`'s receive cell of transfer `j`: a slot's credit if it is the sender. -/
theorem owed_recv (d c : Dev nD) (j : Fin 15) : O₀ d (recvCell c j) () = if d = fro j c then N else 0 := by
  unfold O₀ O₁
  rw [Pi.add_apply, Finsupp.add_apply, Pi.add_apply, Finsupp.add_apply, tallyAt_ne_cell (fun h => by cases (congrArg Prod.snd h)),
    tallyAt_ne_cell (fun h => by cases (congrArg Prod.snd h)), Finsupp.zero_apply, Nat.add_zero, Nat.add_zero, Orem_apply, since_zero,
    Finset.sum_eq_single j]
  · rw [tallyAt_apply]
    refine if_congr ⟨fun h => ?_, fun h => ⟨by rw [h, dst_fro], rfl⟩⟩ rfl rfl
    rw [dev_of_cell h.1, fro_dst]
  · intro k _ hk
    rw [tallyAt_apply]
    exact if_neg fun h => hk (recvS_inj (SemLoc.dma.inj (congrArg Prod.snd h.1))).symm
  · exact fun h => absurd (Finset.mem_univ _) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (j : Fin 15) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (fro j c) fun _ => N,
    if_pos (Finset.mem_univ _)]

theorem creds (c : Dev nD) :
    (Pipeline.launchCred O₀ c : sProp 𝕄)
      ⊢ iprop(cred (tallyAt (barCell c) () 2) ∗ bigSep Finset.univ fun j : Fin 15 => cred (tallyAt (recvCell c j) () N)) := by
  unfold Pipeline.launchCred
  rw [bigSep_univ_at _ (SemLoc.reg barS), launch_bar]
  refine sep_mono_right ?_
  have inj : Function.Injective fun j : Fin 15 => (SemLoc.dma (recvS j) : SemLoc sig) := fun j j' h => recvS_inj (SemLoc.dma.inj h)
  have hs : Finset.univ.map ⟨_, inj⟩ ⊆ Finset.univ.erase (SemLoc.reg barS : SemLoc sig) := fun x hx => by
    obtain ⟨j, -, rfl⟩ := Finset.mem_map.mp hx
    exact Finset.mem_erase.mpr ⟨fun h => (by cases h), Finset.mem_univ _⟩
  refine (bigSep_subset hs).trans ?_
  rw [bigSep_map]
  exact bigSep_mono fun j _ => Entails.of_eq (congrArg (fun t => (cred t : sProp 𝕄)) (launch_recv c j))

/-! ## The side conditions -/

/-- The one array the kernel does not read, as it was. -/
def kept (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ kept m c) := by
  rw [Pipeline.unscopedRestP_none, unscopedRest0_eq]
  iintro ⟨Hk, Hlev, Hcr, -, HG⟩
  ihave Hc := (creds (F := F) c) $$ Hcr
  icases Hc with ⟨H1, HN⟩
  imodintro
  unfold start G' kept
  isplitr [Hk]
  · isplitl [HG]; · iexact HG
    isplitl [H1]; · iexact H1
    isplitl [HN]; · iexact HN
    iexact Hlev
  · iexact Hk

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ fin scratch
  rw [bigSep_sep']
  iintro ⟨Hr, ⟨HS, HV⟩, HB⟩
  isplitl [HB]; · iexact HB
  isplitl [HS HV]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr ⟨15, (Orem_end c).symm⟩)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem kept_read (c : Dev nD) (s' : Phys nD τ sig (Elt F)) :
    iprop(SI s' ∗ kept m c) ⊢ (⌜s'.mem.mem ((c : Thread nD τ).loc main_arg1) = m ((c : Thread nD τ).loc main_arg1)⌝ : sProp 𝕄) :=
  SI_pointsTo_agree.trans (BI.pure_mono fun h => funext fun i => h i (Finset.mem_univ i))

set_option maxRecDepth 8000 in
/-- From any memory with zero counters every fair run of the sixteen devices ends; every final state has each device's
    arrays at `finalA`, the array it does not read as it was, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hk, HSI⟩
      icombine HSI Hk as H0
      ihave %h1 := (kept_read m c s') $$ H0
      icases H0 with ⟨HSI, Hk⟩
      imod (Pipeline.unscopedSems0_read (X := unscopedSems0 c) (c := c) fupd_intro s') $$ [Hu HSI] with ⟨%h2, HSI⟩
      · isplitl [Hu] <;> iassumption
      imodintro
      isplitr; · ipureintro; exact ⟨h2, h1⟩
      iexact HSI)
    (hQ := fun _ h hs => ⟨fun c => ⟨(h c).1, (h c).2.2.2⟩, sem_eq_zero hs fun c => (h c).2.2.1⟩)

theorem finalA_in (c : Dev nD) (w : Fin cfg0.W) (hw : (cfg0.win w).isOut = false) :
    finalA m ρ c w = m ((cfg0.win w).arr.view.loc (c : Thread nD τ)) :=
  (dats (F := F) m ρ 0 c).arrAt_in w hw _

/-- The result array, its one block read back, is what the body left in the staging buffer. -/
theorem finalA_out (c : Dev nD) : (win0_3.blk (0 : Fin 1)).view.read (Elt F) (finalA m ρ c (3 : Fin 4)) = outAt m ρ c := by
  unfold finalA
  rw [show cfg0.N = ((0 : Fin 1) : Fin cfg0.N).val + 1 from rfl, (dats m ρ 0 c).arrAt_succ (3 : Fin 4) (0 : Fin 1),
    show (cfg0.win (3 : Fin 4)).flush (0 : Fin 1) = true from by decide, if_pos rfl]
  exact View.read_write_univ _ _

end Cert.Moe

end
-- ==== Proof.Twin.lean ====
module

public import proofs.«01_k».proof.Proof.Gen.Kernel
public import proofs.«01_k».proof.Proof.Gen.KernelIdeal
public import Idealize.ShloMosaic.Adequacy

@[expose] public section

noncomputable section

namespace Cert.Twin

open Idealize.SL.Sem Idealize.ShloMosaic Idealize.ShloMosaic.TcCoe

variable {F : FTy → Type} [FloatOps F]

theorem body_eq : Cert.Kernel.cc0_body (F := F) = Cert.KernelIdeal.cc0_body (F := F) := rfl

theorem defs₀_eq : Cert.Kernel.defs₀ (F := F) = Cert.KernelIdeal.defs₀ (F := F) := by
  unfold Cert.Kernel.defs₀ Cert.KernelIdeal.defs₀
  congr 1
  funext l
  match l with
  | ⟨0, _⟩ => rfl
  | ⟨n + 1, h⟩ => exact absurd h (by omega)

theorem cfgs_eq : Cert.Kernel.pcfgs (F := F) = Cert.KernelIdeal.pcfgs (F := F) := rfl

theorem defs_eq : Cert.Kernel.defs (F := F) = Cert.KernelIdeal.defs (F := F) :=
  by
  unfold Cert.Kernel.defs Cert.KernelIdeal.defs
  exact congrArg (Pipeline.defs (Cert.KernelIdeal.pcfgs (F := F))) defs₀_eq

theorem main_eq : Cert.Kernel.main (F := F) = Cert.KernelIdeal.main (F := F) := rfl

theorem run_eq (m : (ℓ : Loc Cert.Kernel.nD Cert.Kernel.τ Cert.Kernel.sig) → Buf (Elt F) ℓ) (g : Dev Cert.Kernel.nD → PrngReg) (Q)  :
    θ_run (Cert.KernelIdeal.defs (F := F)) (onTc (τ := Cert.KernelIdeal.τ) (Cert.KernelIdeal.main (F := F))) ⟨m, fun _ => 0, g⟩ Q →
    θ_run (Cert.Kernel.defs (F := F)) (onTc (τ := Cert.Kernel.τ) (Cert.Kernel.main (F := F))) ⟨m, fun _ => 0, g⟩ Q := by
  intro h
  rw [defs_eq]; exact h

end Cert.Twin
-- ==== Proof.Frames.lean ====
/-
# The three frames, and what the kernel leaves in the result array
-/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Twin

@[expose] public section

noncomputable section

namespace Cert.Moe

open Idealize.ShloMosaic Idealize.ShloMosaic.TcCoe Idealize.SL.Sem

section
open Cert.KernelIdeal Cert.KernelIdeal.Gen

variable {F : FTy → Type} [FloatOps F]
variable (m : (ℓ : Loc nD τ sig) → Buf (Elt F) ℓ) (ρ : Dev nD → PrngReg)

/-- The result array of device `c` is what its body leaves. -/
theorem finalA_result (c : Dev nD) : finalA m ρ c (3 : Fin 4) = outAt m ρ c := by
  have hz : (fun a => (win0_3.index (0 : Fin 1)) a * main_v1.ty.shape.size a) = fun _ => 0 := funext fun a => Nat.zero_mul _
  rw [← finalA_out m ρ c]
  exact (Memref.read_access_unit_zero (Elt F) main_v1 hz (fun a => by rw [congrFun hz a, Nat.zero_add]) _).symm

/-- The three staged operands are the arrays they are staged from. -/
theorem xstg_eq (c : Dev nD) : xstg m ρ c = m ((c : Thread nD τ).loc main_arg0) := by
  have hz : (fun a => (win0_0.index (0 : Fin 1)) a * main_arg0.ty.shape.size a) = fun _ => 0 := funext fun a => Nat.zero_mul _
  exact Memref.read_access_unit_zero (Elt F) main_arg0 hz (fun a => by rw [congrFun hz a, Nat.zero_add]) _
theorem rstg_eq (c : Dev nD) : rstg m ρ c = m ((c : Thread nD τ).loc main_arg2) := by
  have hz : (fun a => (win0_1.index (0 : Fin 1)) a * main_arg2.ty.shape.size a) = fun _ => 0 := funext fun a => Nat.zero_mul _
  exact Memref.read_access_unit_zero (Elt F) main_arg2 hz (fun a => by rw [congrFun hz a, Nat.zero_add]) _
theorem wstg_eq (c : Dev nD) : wstg m ρ c = m ((c : Thread nD τ).loc main_arg3) := by
  have hz : (fun a => (win0_2.index (0 : Fin 1)) a * main_arg3.ty.shape.size a) = fun _ => 0 := funext fun a => Nat.zero_mul _
  exact Memref.read_access_unit_zero (Elt F) main_arg3 hz (fun a => by rw [congrFun hz a, Nat.zero_add]) _

/-- At any floats: the run ends with the result at `outAt`, the four arguments as they were, every counter at zero. -/
theorem run_args : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => ⟨((h.1 c).1 (3 : Fin 4)).trans (finalA_result m ρ c),
    ((h.1 c).1 (0 : Fin 4)).trans (finalA_in m ρ c (0 : Fin 4) rfl), (h.1 c).2,
    ((h.1 c).1 (1 : Fin 4)).trans (finalA_in m ρ c (1 : Fin 4) rfl),
    ((h.1 c).1 (2 : Fin 4)).trans (finalA_in m ρ c (2 : Fin 4) rfl)⟩, h.2⟩) (run_main m ρ)
end

theorem frame_k : Cert.quiescent_Kernel := by
  intro m ρ _
  exact Cert.Twin.run_eq m ρ _ ((θ_run Cert.KernelIdeal.defs _ _).mono (fun _ h => ⟨fun c => (h.1 c).2, h.2⟩) (run_args (F := Bits) m ρ))

theorem frame_ki : Cert.quiescent_KernelIdeal := by
  intro m ρ _
  exact (θ_run Cert.KernelIdeal.defs _ _).mono (fun _ h => ⟨fun c => (h.1 c).2, h.2⟩) (run_args (F := Ideal) m ρ)

theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Slots.lean ====
/-
# Tokens, places and slots

The mathematics that the kernel and the reference share, over a list of routes `r`: how many earlier tokens have a token's
route, and that a slot (twelve for each of the sixty-four experts) is the place of at most one token.
-/
module

public import Mathlib.Data.EReal.Operations
public import Mathlib.Algebra.BigOperators.Ring.Finset
public import Mathlib.Data.Fintype.BigOperators

@[expose] public section

noncomputable section

namespace Cert.Moe

/-- How many tokens before token `i` have its route. -/
def earlier (r : Fin 1024 → BitVec 32) (i : Fin 1024) : ℕ := (Finset.univ.filter fun t : Fin 1024 => t.val < i.val ∧ r t = r i).card

/-- Token `i` sits in slot `q`: the slot is its expert's, and as far down as there are earlier tokens. -/
def Sits (r : Fin 1024 → BitVec 32) (i : Fin 1024) (q : Fin 768) : Prop := r i = BitVec.ofNat 32 (q.val / 12) ∧ earlier r i = q.val % 12

instance (r : Fin 1024 → BitVec 32) (i : Fin 1024) (q : Fin 768) : Decidable (Sits r i q) := instDecidableAnd

/-- Of two tokens with one route the later has more earlier ones. -/
theorem earlier_lt (r : Fin 1024 → BitVec 32) {t i : Fin 1024} (h : t.val < i.val) (hr : r t = r i) : earlier r t < earlier r i := by
  refine Finset.card_lt_card (Finset.ssubset_iff_of_subset ?_ |>.mpr ⟨t, ?_, ?_⟩)
  · intro k hk
    simp only [Finset.mem_filter, Finset.mem_univ, true_and] at hk ⊢
    exact ⟨by omega, hk.2.trans hr⟩
  · simpa using ⟨h, hr⟩
  · simp

/-- A slot is the place of one token only. -/
theorem Sits.unique {r : Fin 1024 → BitVec 32} {t i : Fin 1024} {q : Fin 768} (ht : Sits r t q) (hi : Sits r i q) : t = i := by
  have hr : r t = r i := ht.1.trans hi.1.symm
  have he : earlier r t = earlier r i := ht.2.trans hi.2.symm
  rcases Nat.lt_trichotomy t.val i.val with h | h | h
  · have := earlier_lt r h hr; omega
  · exact Fin.ext h
  · have := earlier_lt r h hr.symm; omega

theorem ofNat_eq_iff (v : BitVec 32) {n : ℕ} (hn : n < 64) : v = BitVec.ofNat 32 n ↔ v.toNat = n := by
  rw [← BitVec.toNat_inj, BitVec.toNat_ofNat, Nat.mod_eq_of_lt (by omega : n < 2 ^ 32)]

/-- A token sits in slot `q` exactly when its route and its place are those of the slot. -/
theorem sits_iff (r : Fin 1024 → BitVec 32) (i : Fin 1024) (q : Fin 768) :
    Sits r i q ↔ (r i).toNat = q.val / 12 ∧ earlier r i = q.val % 12 := by
  rw [Sits, ofNat_eq_iff _ (by omega : q.val / 12 < 64)]

/-- One, if the condition holds, and else zero. -/
def ind (p : Prop) [Decidable p] : EReal := if p then 1 else 0

theorem ind_mul (p : Prop) [Decidable p] (a : EReal) : ind p * a = if p then a else 0 := by
  unfold ind; split <;> simp

theorem mul_ind (p : Prop) [Decidable p] (a : EReal) : a * ind p = if p then a else 0 := by
  unfold ind; split <;> simp

theorem ind_mul_ind (p q : Prop) [Decidable p] [Decidable q] : ind p * ind q = ind (p ∧ q) := by
  unfold ind; by_cases hp : p <;> by_cases hq : q <;> simp [hp, hq]

/-- The kernel's place of a token: over the experts, the earlier tokens of the expert, where the expert is the token's. -/
theorem place_sum (r : Fin 1024 → BitVec 32) (i : Fin 1024) :
    (∑ e : Fin 64, (∑ t : Fin 1024, ind (t.val < i.val) * ind (r t = BitVec.ofNat 32 e.val)) * ind (r i = BitVec.ofNat 32 e.val))
      = if (r i).toNat < 64 then ((earlier r i : ℕ) : EReal) else 0 := by
  simp only [ind_mul_ind]
  simp only [mul_ind, ofNat_eq_iff (r i) (Fin.isLt _)]
  split
  · next h =>
    rw [Finset.sum_eq_single (⟨(r i).toNat, h⟩ : Fin 64) (fun b _ hb => if_neg fun e => hb (Fin.ext e.symm)) (fun hn => absurd (Finset.mem_univ _) hn),
      if_pos rfl]
    simp only [ind, Finset.sum_boole, earlier, BitVec.ofNat_toNat, BitVec.setWidth_eq]
  · next h => exact Finset.sum_eq_zero fun e _ => if_neg fun he => h (by have := e.isLt; omega)

/-- What slot `q` gathers of a column of tokens: the entry of the one token that sits there. -/
theorem gather_sum (r : Fin 1024 → BitVec 32) {i : Fin 1024} {q : Fin 768} (h : Sits r i q) (x : Fin 1024 → EReal) :
    (∑ t : Fin 1024, ind (Sits r t q) * x t) = x i := by
  simp only [ind_mul]
  rw [Finset.sum_eq_single i (fun b _ hb => if_neg fun e => hb (e.unique h)) (fun hn => absurd (Finset.mem_univ _) hn), if_pos h]

/-- The slots' rows `g`, selected for token `i`: its own slot's row, and nothing for a token without a slot. -/
theorem select_sum (r : Fin 1024 → BitVec 32) (i : Fin 1024) (g : Fin 768 → EReal) :
    (∑ q : Fin 768, ind (Sits r i q) * g q)
      = if h : (r i).toNat < 64 ∧ earlier r i < 12 then g ⟨(r i).toNat * 12 + earlier r i, by omega⟩ else 0 := by
  simp only [ind_mul]
  split
  · next h =>
    have hs : Sits r i ⟨(r i).toNat * 12 + earlier r i, by omega⟩ := (sits_iff r i _).mpr (by dsimp only; omega)
    rw [Finset.sum_eq_single (⟨(r i).toNat * 12 + earlier r i, by omega⟩ : Fin 768)
      (fun b _ hb => if_neg fun e => hb (Fin.ext (by have := (sits_iff r i b).mp e; dsimp only; omega))) (fun hn => absurd (Finset.mem_univ _) hn), if_pos hs]
  · next h =>
    exact Finset.sum_eq_zero fun q _ => if_neg fun e => h (by have := (sits_iff r i q).mp e; have := q.isLt; omega)

/-- Entry `j` of token `i`'s result: its row through its expert, if the route names an expert that has fewer than twelve
    earlier tokens, and else zero. -/
def result (r : Fin 1024 → BitVec 32) (x : Fin 1024 → Fin 512 → EReal) (W : Fin 64 → Fin 512 → Fin 1024 → EReal) (i j : Fin 1024) : EReal :=
  if h : (r i).toNat < 64 ∧ earlier r i < 12 then ∑ k : Fin 512, x i k * W ⟨(r i).toNat, h.1⟩ k j else 0

/-- The result as the kernel makes it: the slots' rows, each of the token that sits there, selected for the token. -/
theorem result_eq (r : Fin 1024 → BitVec 32) (x : Fin 1024 → Fin 512 → EReal) (W : Fin 64 → Fin 512 → Fin 1024 → EReal) (i j : Fin 1024) :
    (∑ q : Fin 768, ind (Sits r i q) * ∑ k : Fin 512, (∑ t : Fin 1024, ind (Sits r t q) * x t k) * W ⟨q.val / 12, by omega⟩ k j)
      = result r x W i j := by
  rw [select_sum, result]
  refine dite_congr rfl (fun h => ?_) fun _ => rfl
  have hs : Sits r i ⟨(r i).toNat * 12 + earlier r i, by omega⟩ := (sits_iff r i _).mpr (by dsimp only; omega)
  refine Finset.sum_congr rfl fun k _ => ?_
  rw [gather_sum r hs fun t => x t k]
  exact congrArg (fun e => x i k * W e k j) (Fin.ext (by dsimp only; omega))

end Cert.Moe
-- ==== Proof.Words.lean ====
/-
# Comparisons of words, as bits
-/
module

public import Idealize.ShloMosaic.Lib.Pointwise

@[expose] public section

namespace Cert.Moe

open Idealize.ShloMosaic

theorem toInt_small {n : ℕ} (hn : n < 2 ^ 31) : (BitVec.ofNat 32 n).toInt = n := by
  rw [BitVec.toInt_eq_toNat_of_lt (by rw [BitVec.toNat_ofNat]; omega), BitVec.toNat_ofNat]; omega

theorem slt_bit (a b : BitVec 32) : IntOp.cmpi .slt a b = 1#1 ↔ a.toInt < b.toInt := by
  have : IntOp.cmpi .slt a b = BitVec.ofBool (decide (a.toInt < b.toInt)) := rfl
  rw [this]
  by_cases h : a.toInt < b.toInt <;> simp [h]

theorem sge_bit (a b : BitVec 32) : IntOp.cmpi .sge a b = 1#1 ↔ b.toInt ≤ a.toInt := by
  have : IntOp.cmpi .sge a b = BitVec.ofBool (decide (b.toInt ≤ a.toInt)) := rfl
  rw [this]
  by_cases h : b.toInt ≤ a.toInt <;> simp [h]

theorem eq_bit (a b : BitVec 32) : IntOp.cmpi .eq a b = 1#1 ↔ a = b := by
  have : IntOp.cmpi .eq a b = BitVec.ofBool (a == b) := rfl
  rw [this]
  by_cases h : a = b
  · simp [h]
  · rw [beq_eq_false_iff_ne.mpr h]; simp [h]

theorem and_bit (a b : BitVec 1) : IntOp.andi a b = 1#1 ↔ a = 1#1 ∧ b = 1#1 := by
  revert a b; decide

end Cert.Moe
-- ==== Proof.Payloads.lean ====
/-
# The kernel's payloads at an index
-/
module

public import proofs.«01_k».proof.Proof.Frames
public import proofs.«01_k».proof.Proof.Slots
public import proofs.«01_k».proof.Proof.Words
public import Idealize.ShloMosaic.Lib.Pointwise

@[expose] public section

set_option maxRecDepth 16384
noncomputable section

namespace Cert.Moe

open Idealize.ShloMosaic
open Cert.KernelIdeal Cert.KernelIdeal.Gen

/-- A word at an ideal float is the integer that it holds. -/
theorem word_float (φ : FTy) (b : BitVec 32) : (FloatOps.sitofp (F := Ideal) φ b : EReal) = ((b.toInt : ℝ) : EReal) := rfl

/-- A bit widened to a word and made a float is the indicator of the bit. -/
theorem bit_float (φ : FTy) (b : BitVec 1) : (FloatOps.sitofp (F := Ideal) φ (BitVec.setWidth 32 b) : EReal) = ind (b = 1#1) := by
  rw [word_float]
  rcases (by decide : ∀ b : BitVec 1, b = 0#1 ∨ b = 1#1) b with h | h <;> subst h <;> simp [ind]

theorem small_float (φ : FTy) {n : ℕ} (hn : n < 2 ^ 31) : (FloatOps.sitofp (F := Ideal) φ (BitVec.ofNat 32 n) : EReal) = (n : EReal) := by
  rw [word_float, toInt_small hn]; simp

theorem lt_bit {a b : ℕ} (ha : a < 2 ^ 31) (hb : b < 2 ^ 31) : IntOp.cmpi .slt (BitVec.ofNat 32 a) (BitVec.ofNat 32 b) = 1#1 ↔ a < b := by
  rw [slt_bit, toInt_small ha, toInt_small hb, Nat.cast_lt]

/-- The routes of a block of routes. -/
abbrev routes (r : Vec Ideal S1024x1 .i32) : Fin 1024 → BitVec 32 := fun t => r (ix2 t 0)

theorem place_apply (r : Vec Ideal S1024x1 .i32) (t : Fin 1024) :
    k0_pay3 (F := Ideal) r (ix2 t 0) = if (routes r t).toNat < 64 then ((earlier (routes r) t : ℕ) : EReal) else 0 := by
  rw [← place_sum]
  pointwise [k0_pay3, k0_pay2]
  simp only [bit_float, eq_bit, lt_bit (Nat.lt_trans (Fin.isLt _) (by decide : 1024 < 2 ^ 31)) (Nat.lt_trans (Fin.isLt _) (by decide : 1024 < 2 ^ 31))]

theorem slot_expert (t : Fin 64) (q : Fin 768) : k0_pay15 (ix2 t q) = BitVec.ofNat 32 (q.val / 12) := by
  pointwise [k0_pay15]
  revert q
  decide +kernel

theorem row_place (t : Fin 1024) (q : Fin 48) : k0_pay5 (ix2 t q) = BitVec.ofNat 32 (q.val % 12) := by
  pointwise [k0_pay5]
  revert q
  decide +kernel

theorem row_expert (c : Dev nD) (t : Fin 1024) (q : Fin 48) : k0_pay6 (devWord c) (ix2 t q) = BitVec.ofNat 32 (c.val * 4 + q.val / 12) := by
  pointwise [k0_pay6]
  revert c q
  decide +kernel

/-- The kernel's test of a token against a slot, whose words hold expert `e` and place `p`: the place it has computed is
    the number of earlier tokens wherever the route names an expert, as it does where it is `e`. -/
theorem sits_word (φ ψ : FTy) {v x w : BitVec 32} {e p n : ℕ} {P : EReal} (hx : x = BitVec.ofNat 32 e) (hw : w = BitVec.ofNat 32 p)
    (he : e < 64) (hp : p < 12) (hP : P = if v.toNat < 64 then (n : EReal) else 0) :
    (FloatOps.sitofp (F := Ideal) φ (BitVec.setWidth 32 (IntOp.andi (IntOp.cmpi .eq v x)
      (BitVec.ofBool (decide (P = FloatOps.sitofp (F := Ideal) ψ w))))) : EReal) = ind (v = BitVec.ofNat 32 e ∧ n = p) := by
  subst hx hw
  rw [bit_float, small_float ψ (by omega)]
  unfold ind
  refine if_congr ?_ rfl rfl
  rw [and_bit, eq_bit]
  refine and_congr_right fun hv => ?_
  rw [hP, if_pos (by rw [(ofNat_eq_iff v he).mp hv]; exact he)]
  by_cases h : n = p
  · simp [h]
  · have : ¬ ((n : EReal) = (p : EReal)) := fun h' => h (by exact_mod_cast h')
    simp [h, this]

/-- The slot of row `b` of device `c`. -/
abbrev slotOf (c : Dev nD) (b : Fin 48) : Fin 768 := ⟨c.val * 48 + b.val, by have := c.isLt; have := b.isLt; simp only [nD] at *; omega⟩

/-- The tokens that device `c` gathers, one for each of its rows. -/
theorem tokens_apply (c : Dev nD) (r : Vec Ideal S1024x1 .i32) (x : Vec Ideal S1024x512 .bf16) (b : Fin 48) (k : Fin 512) :
    k0_pay7 (F := Ideal) (k0_pay2 r) (k0_pay3 r) k0_pay5 (k0_pay6 (devWord c)) x (ix2 b k)
      = ∑ t : Fin 1024, ind (Sits (routes r) t (slotOf c b)) * x (ix2 t k) := by
  have hc : c.val < 16 := c.isLt
  pointwise [k0_pay7, k0_pay2]
  refine Finset.sum_congr rfl fun t _ => congrArg (· * _) ?_
  refine (sits_word _ _ (row_expert c t b) (row_place t b) (by omega) (by omega) (place_apply r t)).trans ?_
  have h1 : (slotOf c b).val / 12 = c.val * 4 + b.val / 12 := by dsimp only [slotOf]; omega
  have h2 : (slotOf c b).val % 12 = b.val % 12 := by dsimp only [slotOf]; omega
  unfold ind
  exact if_congr (by rw [Sits, h1, h2]) rfl rfl

/-- The rows that device `c` computes, expert by expert. -/
theorem rows0_apply (v : IVec S1024x1 32) (p : FVec Ideal S1024x1 .f32) (e f : IVec S1024x48 32) (x : Vec Ideal S1024x512 .bf16) (w : Vec Ideal S1x512x1024 .bf16)
    (b : Fin 12) (j : Fin 1024) :
    k0_pay8 (F := Ideal) v p e f x w (ix3 0 b j) = ∑ k : Fin 512, k0_pay7 v p e f x (ix2 ⟨b.val, by omega⟩ k) * w (ix3 0 k j) := by
  pointwise [k0_pay8]

theorem rows1_apply (v : IVec S1024x1 32) (p : FVec Ideal S1024x1 .f32) (e f : IVec S1024x48 32) (x : Vec Ideal S1024x512 .bf16) (w : Vec Ideal S1x512x1024 .bf16)
    (b : Fin 12) (j : Fin 1024) :
    k0_pay9 (F := Ideal) v p e f x w (ix3 0 b j) = ∑ k : Fin 512, k0_pay7 v p e f x (ix2 ⟨12 + b.val, by omega⟩ k) * w (ix3 0 k j) := by
  pointwise [k0_pay9]

theorem rows2_apply (v : IVec S1024x1 32) (p : FVec Ideal S1024x1 .f32) (e f : IVec S1024x48 32) (x : Vec Ideal S1024x512 .bf16) (w : Vec Ideal S1x512x1024 .bf16)
    (b : Fin 12) (j : Fin 1024) :
    k0_pay11 (k0_pay10 (F := Ideal) v p e f x w) (ix3 0 b j) = ∑ k : Fin 512, k0_pay7 v p e f x (ix2 ⟨24 + b.val, by omega⟩ k) * w (ix3 0 k j) := by
  pointwise [k0_pay11, k0_pay10]

theorem rows3_apply (y : FVec Ideal S48x512 .bf16) (w : Vec Ideal S1x512x1024 .bf16) (b : Fin 12) (j : Fin 1024) :
    k0_pay12 (F := Ideal) y w (ix3 0 b j) = ∑ k : Fin 512, y (ix2 ⟨36 + b.val, by omega⟩ k) * w (ix3 0 k j) := by
  pointwise [k0_pay12]

/-- The output rows from the gathered slots. -/
theorem out_apply (g : Vec Ideal S16x48x1024 .bf16) (v : Vec Ideal S64x1 .i32) (p : Vec Ideal S64x1 .f32)
    (t : Fin 64) (j : Fin 1024) (n : ℕ) (hp : p (ix2 t 0) = if (v (ix2 t 0)).toNat < 64 then (n : EReal) else 0) :
    k0_pay1 (F := Ideal) (k0_pay13 g) (k0_pay14 v) p k0_pay15 (iota .tc S64x768 32 [1] iota_S64x768_d1_w32) 12#32 (ix2 t j)
      = ∑ q : Fin 768, ind (v (ix2 t 0) = BitVec.ofNat 32 (q.val / 12) ∧ n = q.val % 12)
          * g (ix3 ⟨q.val / 48, by omega⟩ ⟨q.val % 48, by omega⟩ j) := by
  pointwise [k0_pay1, k0_pay13, k0_pay14]
  refine Finset.sum_congr rfl fun q _ => ?_
  refine congrArg₂ (· * ·) (sits_word _ _ (slot_expert t q) ?_ (by omega) (by omega) hp) ?_
  · clear * -
    revert q
    decide +kernel
  · rfl

end Cert.Moe
-- ==== Proof.Gathered.lean ====
/-
# What the devices gather and what they leave, at an index
-/
module

public import proofs.«01_k».proof.Proof.Payloads

@[expose] public section

set_option maxRecDepth 16384
noncomputable section

namespace Cert.Moe

open Idealize.ShloMosaic Idealize.ShloMosaic.TcCoe
open Cert.KernelIdeal Cert.KernelIdeal.Gen

variable (m : (ℓ : Loc nD τ sig) → Buf (Elt Ideal) ℓ) (ρ : Dev nD → PrngReg)

/-- The weights of local expert `e`, loaded from the block of four. -/
theorem weights_apply (e : Fin 4) {off : Fin 3 → ℕ} (ho : off = ![e.val, 0, 0]) (inb : ∀ a, off a + S1x512x1024.size a ≤ S4x512x1024.size a)
    (w : (cc0_stg2_0 : Ref sig .tc).ty.Contents (Elt Ideal)) (k : Fin 512) (j : Fin 1024) :
    wM.view.readAt (Elt Ideal) (Rect.unit (s := S4x512x1024) off S1x512x1024.size inb).toLoadRect w (ix3 0 k j) = w (ix3 e k j) := by
  subst ho
  refine congrArg w (funext fun a => Fin.ext ?_)
  match a with
  | ⟨0, _⟩ => show e.val + 1 * 0 = e.val; omega
  | ⟨1, _⟩ => show 0 + 1 * k.val = k.val; omega
  | ⟨2, _⟩ => show 0 + 1 * j.val = j.val; omega

/-- The device's rows of a column over all tokens. -/
theorem own_rows_apply (c : Dev nD) (t : Fin 64) (y : S64x1.Idx) (hy : y = ix2 t 0) :
    (rowsR c).idx y = ix2 ⟨c.val * 64 + t.val, by have : c.val < 16 := c.isLt; omega⟩ 0 := by
  subst hy
  refine funext fun a => Fin.ext ?_
  match a with
  | ⟨0, _⟩ => show k0_off7 c 0 + 1 * t.val = c.val * 64 + t.val; rw [k0_off7_eq]; show 64 * c.val + 1 * t.val = _; omega
  | ⟨1, _⟩ => show k0_off7 c 1 + 1 * 0 = 0; rw [k0_off7_eq]; rfl

/-- The gathered slots at an index: for each slot, the tokens that sit there through the slot's expert. -/
theorem gath_apply (s : Fin 16) (b : Fin 48) (j : Fin 1024) :
    gath m ρ (ix3 s b j) = ∑ k : Fin 512, (∑ t : Fin 1024, ind (Sits (routes (rstg m ρ s)) t (slotOf s b)) * xstg m ρ s (ix2 t k))
      * wstg m ρ s (ix3 ⟨b.val / 12, by omega⟩ k j) := by
  have h : gath m ρ (ix3 s b j) = if b.val < 12 then piece0 m ρ s (ix3 0 ⟨b.val % 12, Nat.mod_lt _ (by decide)⟩ j)
      else if b.val < 24 then piece1 m ρ s (ix3 0 ⟨b.val % 12, Nat.mod_lt _ (by decide)⟩ j)
      else if b.val < 36 then piece2 m ρ s (ix3 0 ⟨b.val % 12, Nat.mod_lt _ (by decide)⟩ j)
      else piece3 m ρ s (ix3 0 ⟨b.val % 12, Nat.mod_lt _ (by decide)⟩ j) := rfl
  rw [h]
  simp only [← tokens_apply]
  have hb := b.isLt
  split_ifs with h0 h1 h2
  · refine (rows0_apply _ _ _ _ _ _ _ _).trans (Finset.sum_congr rfl fun k _ => congrArg₂ (· * ·) (congrArg _ ?_) ?_)
    · exact congrArg (fun b => ix2 b k) (Fin.ext (by dsimp only; omega))
    · refine (weights_apply ⟨0, by decide⟩ rfl _ _ k j).trans (congrArg (fun e => wstg m ρ s (ix3 e k j)) (Fin.ext (by dsimp only; omega)))
  · refine (rows1_apply _ _ _ _ _ _ _ _).trans (Finset.sum_congr rfl fun k _ => congrArg₂ (· * ·) (congrArg _ ?_) ?_)
    · exact congrArg (fun b => ix2 b k) (Fin.ext (by dsimp only; omega))
    · refine (weights_apply ⟨1, by decide⟩ rfl _ _ k j).trans (congrArg (fun e => wstg m ρ s (ix3 e k j)) (Fin.ext (by dsimp only; omega)))
  · refine (rows2_apply _ _ _ _ _ _ _ _).trans (Finset.sum_congr rfl fun k _ => congrArg₂ (· * ·) (congrArg _ ?_) ?_)
    · exact congrArg (fun b => ix2 b k) (Fin.ext (by dsimp only; omega))
    · refine (weights_apply ⟨2, by decide⟩ rfl _ _ k j).trans (congrArg (fun e => wstg m ρ s (ix3 e k j)) (Fin.ext (by dsimp only; omega)))
  · refine (rows3_apply _ _ _ _).trans (Finset.sum_congr rfl fun k _ => congrArg₂ (· * ·) (congrArg _ ?_) ?_)
    · exact congrArg (fun b => ix2 b k) (Fin.ext (by dsimp only; omega))
    · refine (weights_apply ⟨3, by decide⟩ rfl _ _ k j).trans (congrArg (fun e => wstg m ρ s (ix3 e k j)) (Fin.ext (by dsimp only; omega)))

/-- What device `c` leaves at row `t`, over the whole arrays: `r`, `x` on every device and its four experts' part of `W`. -/
theorem outAt_apply (r : Fin 1024 → BitVec 32) (x : Fin 1024 → Fin 512 → EReal) (W : Fin 64 → Fin 512 → Fin 1024 → EReal)
    (hr : ∀ s, routes (rstg m ρ s) = r) (hx : ∀ s t k, xstg m ρ s (ix2 t k) = x t k)
    (hw : ∀ (s : Fin 16) (b : Fin 4) k j, wstg m ρ s (ix3 b k j) = W ⟨s.val * 4 + b.val, by omega⟩ k j)
    (c : Fin 16) (t : Fin 64) (j : Fin 1024) :
    outAt m ρ c (ix2 t j) = result r x W ⟨c.val * 64 + t.val, by omega⟩ j := by
  have hv : rM.view.readAt (Elt Ideal) (rowsR c).toLoadRect (rstg m ρ c) (ix2 t 0) = r ⟨c.val * 64 + t.val, by omega⟩ := by
    rw [← hr c]
    exact congrArg (rstg m ρ c) (own_rows_apply c t _ rfl)
  have hp : pM.view.readAt (Elt Ideal) (rowsR c).toLoadRect (k0_pay4 (rstg m ρ c)) (ix2 t 0)
      = if (r ⟨c.val * 64 + t.val, by omega⟩).toNat < 64 then ((earlier r ⟨c.val * 64 + t.val, by omega⟩ : ℕ) : EReal) else 0 := by
    refine (congrArg (k0_pay4 (rstg m ρ c)) (own_rows_apply c t _ rfl)).trans ?_
    rw [← hr c, ← place_apply]
    pointwise [k0_pay4]
  rw [← hv] at hp
  unfold outAt
  refine (out_apply _ _ _ t j _ hp).trans ?_
  rw [hv, ← result_eq]
  refine Finset.sum_congr rfl fun q _ => congrArg₂ (· * ·) rfl ?_
  rw [gath_apply, hr]
  refine Finset.sum_congr rfl fun k _ => congrArg₂ (· * ·) (Finset.sum_congr rfl fun i _ => ?_) ?_
  · have e : slotOf ⟨q.val / 48, by show _ < 16; omega⟩ ⟨q.val % 48, by omega⟩ = q := Fin.ext (by dsimp only [slotOf]; omega)
    rw [e, hx]
  · rw [hw]
    exact congrArg (fun e => W e k j) (Fin.ext (by dsimp only; omega))

end Cert.Moe
-- ==== Proof.RefValue.lean ====
/-
# The reference's result at an index
-/
module

public import proofs.«01_k».proof.Proof.Gen.ReferenceIdeal.Run
public import proofs.«01_k».proof.Proof.Slots
public import proofs.«01_k».proof.Proof.Words
public import Idealize.ShloMosaic.Lib.Pointwise

@[expose] public section

set_option maxRecDepth 16384
noncomputable section

namespace Cert.Moe.Ref

open Idealize.ShloMosaic Idealize.ShloMosaic.TcCoe
open Idealize.SL.Sem
open Cert.ReferenceIdeal Cert.ReferenceIdeal.Gen

/-- The clipped route, as the reference gathers by it. -/
def clipped (e : IVec S1024x1 32) : IVec S1024x1 32 := (broadcastInDim S1024x1 ![0] bcast_S1024_S1024x1_0 (select (cmpi .slt (minsi (broadcastInDim S1024 ![] bcast_S_S1024 (id (constantI S_ 32 63#32))) (maxsi (broadcastInDim S1024 ![] bcast_S_S1024 (id (constantI S_ 32 0#32))) (shapeCast _ e shapeCasts_S1024x1_S1024))) (broadcastInDim S1024 ![] bcast_S_S1024 (constantI S_ 32 0#32))) (addi (minsi (broadcastInDim S1024 ![] bcast_S_S1024 (id (constantI S_ 32 63#32))) (maxsi (broadcastInDim S1024 ![] bcast_S_S1024 (id (constantI S_ 32 0#32))) (shapeCast _ e shapeCasts_S1024x1_S1024))) (broadcastInDim S1024 ![] bcast_S_S1024 (constantI S_ 32 64#32))) (minsi (broadcastInDim S1024 ![] bcast_S_S1024 (id (constantI S_ 32 63#32))) (maxsi (broadcastInDim S1024 ![] bcast_S_S1024 (id (constantI S_ 32 0#32))) (shapeCast _ e shapeCasts_S1024x1_S1024)))))

/-- The weights that the reference gathers for a token whose route names expert `e`. -/
theorem gather_rows {α : Type} (W : S64x512x1024.Idx → α) (idx : IVec S1024x1 32) (i : Fin 1024) (k : Fin 512) (j : Fin 1024) (e : Fin 64)
    (he : (idx (ix2 i 0)).toInt = e.val) :
    Host.gather gather_S64x512x1024_S1024x1_S1024x512x1024_12_0_n_n_0_1_15121024 W idx (ix3 i k j) = W (ix3 e k j) := by
  unfold Host.gather
  refine congrArg W (funext fun a => Fin.ext ?_)
  match a with
  | ⟨0, _⟩ =>
    have hi : GatherDims.siIdx gather_S64x512x1024_S1024x1_S1024x512x1024_12_0_n_n_0_1_15121024 (ix3 i k j) ⟨0, by decide⟩ = ix2 i 0 := by
      funext b
      match b with
      | ⟨0, _⟩ => rfl
      | ⟨1, _⟩ => rfl
    show min (idx (GatherDims.siIdx gather_S64x512x1024_S1024x1_S1024x512x1024_12_0_n_n_0_1_15121024 (ix3 i k j) ⟨0, by decide⟩)).toInt.toNat 63 + 0 + 0 = e.val
    rw [hi, he]
    have := e.isLt
    omega
  | ⟨1, _⟩ => show 0 + 0 + k.val = k.val; omega
  | ⟨2, _⟩ => show 0 + 0 + j.val = j.val; omega

/-- A sum of widened bits is the number of those that are set. -/
theorem fold_bits {n : ℕ} (b : Fin n → BitVec 1) (s : Finset (Fin n)) :
    Finset.fold IntOp.addi (0#32) (fun x => BitVec.setWidth 32 (b x)) s = BitVec.ofNat 32 (s.filter fun x => b x = 1#1).card := by
  classical
  induction s using Finset.induction_on with
  | empty => rfl
  | insert a s ha ih =>
    rw [Finset.fold_insert ha, ih, Finset.filter_insert]
    rcases (by decide : ∀ v : BitVec 1, v = 0#1 ∨ v = 1#1) (b a) with h | h
    · rw [h, if_neg (by decide)]
      exact BitVec.zero_add _
    · rw [h, if_pos rfl, Finset.card_insert_of_notMem (fun h' => ha (Finset.mem_filter.mp h').1), Nat.add_comm, BitVec.ofNat_add]
      rfl

/-- The count of earlier tokens, as the reference takes it. -/
def counts (e : IVec S1024x1 32) : IVec S1024 32 :=
  Host.reduce IntOp.addi (extui 32 (andi (cmpi .eq (broadcastInDim S1024x1024 ![0, 1] bcast_S1024x1_S1024x1024_0_1 (broadcastInDim S1024x1 ![0] bcast_S1024_S1024x1_0 (shapeCast _ e shapeCasts_S1024x1_S1024))) (broadcastInDim S1024x1024 ![0, 1] bcast_S1x1024_S1024x1024_0_1 (broadcastInDim S1x1024 ![1] bcast_S1024_S1x1024_1 (shapeCast _ e shapeCasts_S1024x1_S1024)))) (cmpi .slt (broadcastInDim S1024x1024 ![0, 1] bcast_S1x1024_S1024x1024_0_1 (broadcastInDim S1x1024 ![1] bcast_S1024_S1x1024_1 (iotaInDim S1024 32 0))) (broadcastInDim S1024x1024 ![0, 1] bcast_S1024x1_S1024x1024_0_1 (broadcastInDim S1024x1 ![0] bcast_S1024_S1024x1_0 (iotaInDim S1024 32 0))))) natLt_1_32) (constantI S_ 32 0#32) reducesTo_S1024x1024_S1024_d1 h_S_

theorem counts_apply (e : IVec S1024x1 32) (i : Fin 1024) : counts e (ix1 i) = BitVec.ofNat 32 (earlier (fun t => e (ix2 t 0)) i) := by
  pointwise [counts]
  rw [fold_bits]
  refine congrArg (BitVec.ofNat 32) (congrArg Finset.card (Finset.filter_congr fun t _ => ?_))
  rw [and_bit, eq_bit, slt_bit, toInt_small (by omega), toInt_small (by omega), Nat.cast_lt]
  exact ⟨fun h => ⟨h.2, h.1.symm⟩, fun h => ⟨h.2.symm, h.1⟩⟩

/-- Where the route names an expert, clipping leaves it. -/
theorem clipped_apply (e : IVec S1024x1 32) (i : Fin 1024) (h : (e (ix2 i 0)).toNat < 64) : clipped e (ix2 i 0) = e (ix2 i 0) := by
  pointwise [clipped]
  simp only [id, constantI_apply]
  generalize e (ix2 i 0) = v at h ⊢
  obtain ⟨n, hn, rfl⟩ : ∃ n : ℕ, n < 64 ∧ v = BitVec.ofNat 32 n := ⟨v.toNat, h, by simp⟩
  clear h
  interval_cases n <;> decide

/-- The reference's result array over its arguments. -/
def refTerm (x : FVec Ideal S1024x512 .bf16) (e : IVec S1024x1 32) (W : FVec Ideal S64x512x1024 .bf16) : FVec Ideal S1024x1024 .f32 :=
  select (broadcastInDim S1024x1024 ![0, 1] bcast_S1024x1_S1024x1024_0_1 (broadcastInDim S1024x1 ![0] bcast_S1024_S1024x1_0 (andi (andi (cmpi .sge (shapeCast _ e shapeCasts_S1024x1_S1024) (broadcastInDim S1024 ![] bcast_S_S1024 (constantI S_ 32 0#32))) (cmpi .slt (shapeCast _ e shapeCasts_S1024x1_S1024) (broadcastInDim S1024 ![] bcast_S_S1024 (constantI S_ 32 64#32)))) (cmpi .slt (counts e) (broadcastInDim S1024 ![] bcast_S_S1024 (constantI S_ 32 12#32))))))
    (Host.dotGeneral dot_S1024x512_S1024x512x1024_S1024x1024_1_1_n_2_0_0 none (extf .f32 x bitsLt_bf16_f32) (Host.gather gather_S64x512x1024_S1024x1_S1024x512x1024_12_0_n_n_0_1_15121024 (extf .f32 W bitsLt_bf16_f32) (clipped e)))
    (broadcastInDim S1024x1024 ![] bcast_S_S1024x1024 (id (constant S_ .f32 0x00000000#32)))

theorem refTerm_apply (x : FVec Ideal S1024x512 .bf16) (e : IVec S1024x1 32) (W : FVec Ideal S64x512x1024 .bf16) (i j : Fin 1024) :
    refTerm x e W (ix2 i j) = result (fun t => e (ix2 t 0)) (fun t k => x (ix2 t k)) (fun a k j => W (ix3 a k j)) i j := by
  pointwise [refTerm]
  rw [counts_apply]
  have hn : earlier (fun t => e (ix2 t 0)) i ≤ 1024 := (Finset.card_le_univ _).trans (by simp)
  have hc : IntOp.andi (IntOp.andi (IntOp.cmpi .sge (e (ix2 i 0)) 0#32) (IntOp.cmpi .slt (e (ix2 i 0)) 64#32))
        (IntOp.cmpi .slt (BitVec.ofNat 32 (earlier (fun t => e (ix2 t 0)) i)) 12#32) = 1#1
      ↔ (e (ix2 i 0)).toNat < 64 ∧ earlier (fun t => e (ix2 t 0)) i < 12 := by
    rw [and_bit, and_bit, sge_bit, slt_bit, slt_bit,
      toInt_small (n := earlier (fun t => e (ix2 t 0)) i) (by omega), BitVec.toInt_eq_toNat_cond (e (ix2 i 0))]
    have := (e (ix2 i 0)).isLt
    have h0 : (0#32).toInt = 0 := rfl
    have h1 : (64#32).toInt = 64 := rfl
    have h2 : (12#32).toInt = 12 := rfl
    rw [h0, h1, h2]
    split <;> omega
  unfold Scalar.select result
  by_cases h : (e (ix2 i 0)).toNat < 64 ∧ earlier (fun t => e (ix2 t 0)) i < 12
  · rw [dif_pos h]
    refine (if_pos (hc.mpr h)).trans (Finset.sum_congr rfl fun k _ => congrArg _ ?_)
    refine (gather_rows _ _ i k j ⟨(e (ix2 i 0)).toNat, h.1⟩ ?_).trans rfl
    rw [clipped_apply e i h.1, BitVec.toInt_eq_toNat_of_lt (by omega)]
  · rw [dif_neg h]
    refine (if_neg fun h' => h (hc.mp h')).trans ?_
    exact Ideal.ofBits_zero_f32

theorem run_refTerm (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = refTerm (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := Value.run m ρ

end Cert.Moe.Ref
-- ==== Proof.Algebraic.lean ====
/-
# The kernel's result is the reference's
-/
module

public import proofs.«01_k».proof.Defs
public import proofs.«01_k».proof.Proof.Frames
public import proofs.«01_k».proof.Proof.Gathered
public import proofs.«01_k».proof.Proof.RefValue

@[expose] public section

set_option maxRecDepth 16384
noncomputable section

namespace Cert.Moe

open Idealize.ShloMosaic Idealize.ShloMosaic.TcCoe Idealize.SL.Sem

/-- Device `c`'s result is its block of the reference's, where the devices hold the reference's arguments: `x` and the routes
    whole, the experts' weights by blocks of four. -/
theorem outAt_eq_block (m : (ℓ : Loc Cert.KernelIdeal.nD Cert.KernelIdeal.τ Cert.KernelIdeal.sig) → Buf (Elt Ideal) ℓ)
    (ρ : Dev Cert.KernelIdeal.nD → PrngReg) (x : FVec Ideal Cert.ReferenceIdeal.S1024x512 .bf16)
    (e : IVec Cert.ReferenceIdeal.S1024x1 32) (W : FVec Ideal Cert.ReferenceIdeal.S64x512x1024 .bf16)
    (hx : ∀ c, xstg m ρ c = x) (he : ∀ c, rstg m ρ c = e)
    (hW : ∀ c, wstg m ρ c = Layout.block ⟨3, ![4, 512, 1024]⟩ ⟨3, ![64, 512, 1024]⟩ 0 16 c W) (c : Fin 16) :
    outAt m ρ c = Layout.block ⟨2, ![64, 1024]⟩ ⟨2, ![1024, 1024]⟩ 0 16 c (Ref.refTerm x e W) := by
  funext i
  obtain ⟨t, j, rfl⟩ : ∃ (t : Fin 64) (j : Fin 1024), i = ix2 t j := ⟨i 0, i 1, eq_ix2 i⟩
  refine (outAt_apply m ρ (fun t => e (ix2 t 0)) (fun t k => x (ix2 t k)) (fun a k j => W (ix3 a k j)) ?_ ?_ ?_ c t j).trans ?_
  · intro s; unfold routes; rw [he]
  · intro s t k; rw [hx]
  · intro s b k j
    rw [hW]
    refine congrArg W (funext fun a => Fin.ext ?_)
    match a with
    | ⟨0, _⟩ => rfl
    | ⟨1, _⟩ => rfl
    | ⟨2, _⟩ => rfl
  · rw [← Ref.refTerm_apply]
    refine congrArg (Ref.refTerm x e W) (funext fun a => Fin.ext ?_)
    match a with
    | ⟨0, _⟩ => rfl
    | ⟨1, _⟩ => rfl

/-- Over the extended reals, the kernel's result is the reference's, block by block. -/
theorem algebraic : Cert.algebraic_KernelIdeal_ReferenceIdeal := by
  intro m g m' g' _ hagree
  refine ⟨Ref.refTerm (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run Cert.KernelIdeal.defs _ _).mono (fun r h c => ⟨(h.1 c).1.trans ?_, (h.1 c).2⟩) (run_args (F := Ideal) m g)
    exact outAt_eq_block m g _ _ _ (fun c => (xstg_eq m g c).trans (hagree c).1) (fun c => (rstg_eq m g c).trans (hagree c).2.2.1)
      (fun c => (wstg_eq m g c).trans (hagree c).2.2.2) c
  · exact (θ_run Cert.ReferenceIdeal.defs _ _).mono (fun _ h => h 0) (Ref.run_refTerm m' g')

end Cert.Moe
-- ==== Proof.lean ====
/-
# The claims, assembled
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- Everything the certificate claims. -/
theorem claim : Cert.Claim :=
  ⟨inferInstance, inferInstance, inferInstance, Cert.Moe.frame_k, Cert.Moe.frame_ki, Cert.Moe.frame_ri, trivial, Cert.Moe.algebraic⟩

end Cert.Proof

end
